-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_entries_at_least_minus_one [hPre_entries_at_least_minus_one : Cert.Pre_entries_at_least_minus_one.Facts] (m : (ℓ : Loc Cert.KernelIdeal.nD Cert.KernelIdeal.τ Cert.KernelIdeal.sig) → Buf (Elt Ideal) ℓ) : Prop :=
  ∀ c : Dev Cert.KernelIdeal.nD,
    (Cert.Pre_entries_at_least_minus_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_entries_at_least_minus_one [hPre_entries_at_least_minus_one : Cert.Pre_entries_at_least_minus_one.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_entries_at_least_minus_one.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_entries_at_least_minus_one [hKernelIdeal : Cert.KernelIdeal.Facts] [hPre_entries_at_least_minus_one : Cert.Pre_entries_at_least_minus_one.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_entries_at_least_minus_one m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_entries_at_least_minus_one [hReferenceIdeal : Cert.ReferenceIdeal.Facts] [hPre_entries_at_least_minus_one : Cert.Pre_entries_at_least_minus_one.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_entries_at_least_minus_one m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_entries_at_least_minus_one [hKernelIdeal : Cert.KernelIdeal.Facts] [hReferenceIdeal : Cert.ReferenceIdeal.Facts] [hPre_entries_at_least_minus_one : Cert.Pre_entries_at_least_minus_one.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_entries_at_least_minus_one m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_entries_at_least_minus_one : Cert.Pre_entries_at_least_minus_one.Facts),
    quiescent_Kernel (hKernel := hKernel)
    ∧ quiescent_KernelIdeal (hKernelIdeal := hKernelIdeal)
    ∧ quiescent_KernelIdeal_pre_entries_at_least_minus_one (hKernelIdeal := hKernelIdeal) (hPre_entries_at_least_minus_one := hPre_entries_at_least_minus_one)
    ∧ quiescent_ReferenceIdeal (hReferenceIdeal := hReferenceIdeal)
    ∧ quiescent_ReferenceIdeal_pre_entries_at_least_minus_one (hReferenceIdeal := hReferenceIdeal) (hPre_entries_at_least_minus_one := hPre_entries_at_least_minus_one)
    ∧ preserves_Kernel_KernelIdeal
    ∧ algebraic_KernelIdeal_ReferenceIdeal_pre_entries_at_least_minus_one (hKernelIdeal := hKernelIdeal) (hReferenceIdeal := hReferenceIdeal) (hPre_entries_at_least_minus_one := hPre_entries_at_least_minus_one)
-- ==== Pre_entries_at_least_minus_one.lean ====
abbrev S2048x4x1024 : Shape := ⟨3, ![2048, 4, 1024]⟩
abbrev S2048x4x8000 : Shape := ⟨3, ![2048, 4, 8000]⟩
abbrev S1024x1024 : Shape := ⟨2, ![1024, 1024]⟩
abbrev S1024 : Shape := ⟨1, ![1024]⟩
abbrev S8000x1024 : Shape := ⟨2, ![8000, 1024]⟩
abbrev S_ : Shape := ⟨0, ![]⟩

class Facts : Prop where
  bcast_S_S2048x4x8000 : S_.BroadcastsInDim S2048x4x8000 (![] : Fin 0 → Fin S2048x4x8000.rank)

variable [Facts]

def fn {F : FTy → Type} [FloatOps F] (main_arg0 : FVec F S2048x4x1024 .f32) (main_arg1 : FVec F S2048x4x8000 .f32) (main_arg2 : FVec F S1024x1024 .f32) (main_arg3 : FVec F S1024 .f32) (main_arg4 : FVec F S1024 .f32) (main_arg5 : FVec F S1024 .f32) (main_arg6 : FVec F S8000x1024 .f32) : IVec S2048x4x8000 1 :=
  let main_cst : FVec F S_ .f32 := constant S_ .f32 0xBF800000#32
  let main_v0 : FVec F S2048x4x8000 .f32 := broadcastInDim S2048x4x8000 ![] bcast_S_S2048x4x8000 main_cst
  let main_v1 : IVec S2048x4x8000 1 := cmpf .oge main_arg1 main_v0
  main_v1
-- ==== Kernel.lean ====
abbrev S2048x4x1024 : Shape := ⟨3, ![2048, 4, 1024]⟩
abbrev S2048x4x8000 : Shape := ⟨3, ![2048, 4, 8000]⟩
abbrev S1024x1024 : Shape := ⟨2, ![1024, 1024]⟩
abbrev S1024 : Shape := ⟨1, ![1024]⟩
abbrev S8000x1024 : Shape := ⟨2, ![8000, 1024]⟩
abbrev S1x1024 : Shape := ⟨2, ![1, 1024]⟩
abbrev S32x4x8000 : Shape := ⟨3, ![32, 4, 8000]⟩
abbrev S32x4x1024 : Shape := ⟨3, ![32, 4, 1024]⟩
abbrev S128x512 : Shape := ⟨2, ![128, 512]⟩
abbrev S128x8000 : Shape := ⟨2, ![128, 8000]⟩
abbrev S128x1 : Shape := ⟨2, ![128, 1]⟩
abbrev S128x128 : Shape := ⟨2, ![128, 128]⟩
abbrev S128 : Shape := ⟨1, ![128]⟩
abbrev S1x128x1 : Shape := ⟨3, ![1, 128, 1]⟩
abbrev S1 : Shape := ⟨1, ![1]⟩
abbrev S1x1x1 : Shape := ⟨3, ![1, 1, 1]⟩
abbrev S128x1024 : Shape := ⟨2, ![128, 1024]⟩

abbrev nBuf : Space → Nat
  | .hbm => 13
  | .vmem => 14
  | .smem => 0
  | _ => 0

abbrev bufTy : (tb : Table) → Fin (tcTables nBuf tb) → BufTy
  | .hbm, ⟨0, _⟩ => ⟨S2048x4x1024, .f32⟩
  | .hbm, ⟨1, _⟩ => ⟨S2048x4x8000, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S8000x1024, .f32⟩
  | .hbm, ⟨7, _⟩ => ⟨S8000x1024, .bf16⟩
  | .hbm, ⟨8, _⟩ => ⟨S1024x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S2048x4x1024, .f32⟩
  | .local _ .vmem, ⟨0, _⟩ => ⟨S32x4x8000, .f32⟩
  | .local _ .vmem, ⟨1, _⟩ => ⟨S32x4x8000, .f32⟩
  | .local _ .vmem, ⟨2, _⟩ => ⟨S32x4x1024, .f32⟩
  | .local _ .vmem, ⟨3, _⟩ => ⟨S32x4x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S8000x1024, .bf16⟩
  | .local _ .vmem, ⟨9, _⟩ => ⟨S32x4x1024, .f32⟩
  | .local _ .vmem, ⟨10, _⟩ => ⟨S32x4x1024, .f32⟩
  | .local _ .vmem, ⟨11, _⟩ => ⟨S128x512, .f32⟩
  | .local _ .vmem, ⟨12, _⟩ => ⟨S128x8000, .f32⟩
  | .local _ .vmem, ⟨13, _⟩ => ⟨S128x1, .f32⟩
  | _, _ => ⟨S2048x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c11_i32 : BitVec 32 := 11#32
  let v518 : BitVec 32 := Scalar.addi c0_i32 c11_i32
  let c1_i32 : BitVec 32 := 1#32
  ⟨c0_i32, v518, c1_i32⟩
@[reducible] def k0_t2_loop : Scf.Loop 32 :=
  let c0_i32_44 : BitVec 32 := 0#32
  let c11_i32_45 : BitVec 32 := 11#32
  let v591 : BitVec 32 := Scalar.addi c0_i32_44 c11_i32_45
  let c1_i32_46 : BitVec 32 := 1#32
  ⟨c0_i32_44, v591, c1_i32_46⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x4x8000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x4x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8000x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x4x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2048x4x1024 : Shape := ⟨3, ![2048, 4, 1024]⟩
abbrev S2048x4x8000 : Shape := ⟨3, ![2048, 4, 8000]⟩
abbrev S1024x1024 : Shape := ⟨2, ![1024, 1024]⟩
abbrev S1024 : Shape := ⟨1, ![1024]⟩
abbrev S8000x1024 : Shape := ⟨2, ![8000, 1024]⟩
abbrev S1x1x1024 : Shape := ⟨3, ![1, 1, 1024]⟩
abbrev S_ : Shape := ⟨0, ![]⟩
abbrev S2048x4 : Shape := ⟨2, ![2048, 4]⟩
abbrev S2048x4x1 : Shape := ⟨3, ![2048, 4, 1]⟩
abbrev S8192x8000 : Shape := ⟨2, ![8192, 8000]⟩
abbrev S8192x1024 : Shape := ⟨2, ![8192, 1024]⟩

abbrev nBuf : Space → Nat
  | .hbm => 72
  | .vmem => 0
  | .smem => 0
  | _ => 0

abbrev bufTy : (tb : Table) → Fin (tcTables nBuf tb) → BufTy
  | .hbm, ⟨0, _⟩ => ⟨S2048x4x1024, .f32⟩
  | .hbm, ⟨1, _⟩ => ⟨S2048x4x8000, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S8000x1024, .f32⟩
  | .hbm, ⟨7, _⟩ => ⟨S1024x1024, .f32⟩
  | .hbm, ⟨8, _⟩ => ⟨S2048x4x1024, .f32⟩
  | .hbm, ⟨9, _⟩ => ⟨S1x1x1024, .f32⟩
  | .hbm, ⟨10, _⟩ => ⟨S2048x4x1024, .f32⟩
  | .hbm, ⟨11, _⟩ => ⟨S2048x4x1024, .f32⟩
  | .hbm, ⟨12, _⟩ => ⟨S_, .f32⟩
  | .hbm, ⟨13, _⟩ => ⟨S2048x4, .f32⟩
  | .hbm, ⟨14, _⟩ => ⟨S2048x4x1, .f32⟩
  | .hbm, ⟨15, _⟩ => ⟨S_, .f32⟩
  | .hbm, ⟨16, _⟩ => ⟨S2048x4x1, .f32⟩
  | .hbm, ⟨17, _⟩ => ⟨S2048x4x1, .f32⟩
  | .hbm, ⟨18, _⟩ => ⟨S_, .i32⟩
  | .hbm, ⟨19, _⟩ => ⟨S_, .f32⟩
  | .hbm, ⟨20, _⟩ => ⟨S2048x4, .f32⟩
  | .hbm, ⟨21, _⟩ => ⟨S2048x4x1, .f32⟩
  | .hbm, ⟨22, _⟩ => ⟨S_, .f32⟩
  | .hbm, ⟨23, _⟩ => ⟨S2048x4x1, .f32⟩
  | .hbm, ⟨24, _⟩ => ⟨S2048x4x1, .f32⟩
  | .hbm, ⟨25, _⟩ => ⟨S2048x4x1024, .f32⟩
  | .hbm, ⟨26, _⟩ => ⟨S2048x4x1024, .f32⟩
  | .hbm, ⟨27, _⟩ => ⟨S2048x4x1024, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S2048x4, .f32⟩
  | .hbm, ⟨33, _⟩ => ⟨S2048x4x1, .f32⟩
  | .hbm, ⟨34, _⟩ => ⟨S2048x4x1, .f32⟩
  | .hbm, ⟨35, _⟩ => ⟨S2048x4x1, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S2048x4x1, .f32⟩
  | .hbm, ⟨41, _⟩ => ⟨S2048x4x1, .f32⟩
  | .hbm, ⟨42, _⟩ => ⟨S2048x4x1024, .f32⟩
  | .hbm, ⟨43, _⟩ => ⟨S2048x4x1024, .f32⟩
  | .hbm, ⟨44, _⟩ => ⟨S_, .f32⟩
  | .hbm, ⟨45, _⟩ => ⟨S2048x4x1, .f32⟩
  | .hbm, ⟨46, _⟩ => ⟨S2048x4x1, .f32⟩
  | .hbm, ⟨47, _⟩ => ⟨S2048x4x1, .f32⟩
  | .hbm, ⟨48, _⟩ => ⟨S2048x4x1024, .f32⟩
  | .hbm, ⟨49, _⟩ => ⟨S2048x4x1024, .f32⟩
  | .hbm, ⟨50, _⟩ => ⟨S1x1x1024, .f32⟩
  | .hbm, ⟨51, _⟩ => ⟨S2048x4x1024, .f32⟩
  | .hbm, ⟨52, _⟩ => ⟨S2048x4x1024, .f32⟩
  | .hbm, ⟨53, _⟩ => ⟨S1x1x1024, .f32⟩
  | .hbm, ⟨54, _⟩ => ⟨S2048x4x1024, .f32⟩
  | .hbm, ⟨55, _⟩ => ⟨S2048x4x1024, .f32⟩
  | .hbm, ⟨56, _⟩ => ⟨S_, .f32⟩
  | .hbm, ⟨57, _⟩ => ⟨S2048x4x1024, .f32⟩
  | .hbm, ⟨58, _⟩ => ⟨S2048x4x1024, .f32⟩
  | .hbm, ⟨59, _⟩ => ⟨S2048x4x8000, .f32⟩
  | .hbm, ⟨60, _⟩ => ⟨S2048x4x8000, .f32⟩
  | .hbm, ⟨61, _⟩ => ⟨S2048x4x8000, .f32⟩
  | .hbm, ⟨62, _⟩ => ⟨S2048x4x1, .f32⟩
  | .hbm, ⟨63, _⟩ => ⟨S2048x4x8000, .f32⟩
  | .hbm, ⟨64, _⟩ => ⟨S2048x4x8000, .i1⟩
  | .hbm, ⟨65, _⟩ => ⟨S_, .f32⟩
  | .hbm, ⟨66, _⟩ => ⟨S2048x4x8000, .f32⟩
  | .hbm, ⟨67, _⟩ => ⟨S2048x4x8000, .f32⟩
  | .hbm, ⟨68, _⟩ => ⟨S8192x8000, .f32⟩
  | .hbm, ⟨69, _⟩ => ⟨S8192x1024, .f32⟩
  | .hbm, ⟨70, _⟩ => ⟨S2048x4x1024, .f32⟩
  | .hbm, ⟨71, _⟩ => ⟨S2048x4x1024, .f32⟩
  | _, _ => ⟨S2048x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_cst_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_cst_1 : Ref sig .tc := ⟨.hbm, 29, rfl⟩
abbrev main_call0_v8 : Ref sig .tc := ⟨.hbm, 30, rfl⟩
abbrev main_call0_cst_2 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_cst_3 : Ref sig .tc := ⟨.hbm, 36, rfl⟩
abbrev main_call0_v13 : Ref sig .tc := ⟨.hbm, 37, rfl⟩
abbrev main_call0_cst_4 : Ref sig .tc := ⟨.hbm, 38, rfl⟩
abbrev main_call0_call0_v0 : Ref sig .tc := ⟨.hbm, 39, rfl⟩
abbrev main_call0_call0_v1 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_cst_1 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_call1_cst : Ref sig .tc := ⟨.hbm, 56, rfl⟩
abbrev main_call1_v0 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_cst_2 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩

abbrev nD : Nat := 1
abbrev τ : Topo := Topo.v7x

variable {F : FTy → Type} [FloatOps F]
-- ==== Proof.KernelIdealBody.lean ====
/-
  The run of the kernel: what its body leaves in the output window's buffer as a function of the blocks of the input
  windows, the body's triple (with the two counted loops by invariants of their own), the pipeline's proof data, the run and
  the frame.
-/
module

public import proofs.«01_k».proof.Proof.Gen.KernelIdeal.Frame
public import proofs.«01_k».proof.Proof.Gen.KernelIdeal.Skeleton
public import Idealize.ShloMosaic.Lib.Claim
public import Idealize.ShloMosaic.Lib.Pipeline.Value

@[expose] public section

noncomputable section

namespace Cert.Proof.KernelIdealBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two loops as recursions -/

/-- The carried pair (threshold, count still needed) and the contents of the candidate buffer before trip `k` of the
    candidate loop, started at candidates `y`. -/
def fastSt (y : FVec F S128x512 .f32) : ℕ → (FVec F S128x1 .f32 × FVec F S128x1 .f32) × FVec F S128x512 .f32
  | 0 => ((k0_pay367, k0_pay368), y)
  | k + 1 => ((k0_pay372 (fastSt y k).1.1 (fastSt y k).1.2 (fastSt y k).2, k0_pay373 (fastSt y k).1.2 (fastSt y k).2),
      k0_pay374 (fastSt y k).2)

/-- The carried pair and the contents of the copied tile before trip `k` of the loop over the whole tile. -/
def slowSt (y : FVec F S128x8000 .f32) : ℕ → (FVec F S128x1 .f32 × FVec F S128x1 .f32) × FVec F S128x8000 .f32
  | 0 => ((k0_pay379, k0_pay380), y)
  | k + 1 => ((k0_pay384 (slowSt y k).1.1 (slowSt y k).1.2 (slowSt y k).2, k0_pay385 (slowSt y k).1.2 (slowSt y k).2),
      k0_pay386 (slowSt y k).2)

/-! ## The body's values -/

/-- The four running maxima of each lane, before the last blocks of a lane are inserted: two of the body's parts at a time. -/
def tops2 (x : Vec F S32x4x8000 .f32) : FVec F S128x128 .f32 × FVec F S128x128 .f32 × FVec F S128x128 .f32 × FVec F S128x128 .f32 :=
  (k0_pay84 (k0_pay2 x) (k0_pay42 x), k0_pay86 (k0_pay2 x) (k0_pay42 x) (k0_pay44 x),
    k0_pay88 (k0_pay2 x) (k0_pay37 x) (k0_pay39 x) (k0_pay42 x) (k0_pay43 x) (k0_pay44 x),
    k0_pay89 (k0_pay2 x) (k0_pay37 x) (k0_pay39 x) (k0_pay40 x) (k0_pay42 x) (k0_pay43 x) (k0_pay44 x))

/-- The running maxima after the second stretch of insertions. -/
def tops4 (v1 : FVec F S128x8000 .f32) (a b c d : FVec F S128x128 .f32) : FVec F S128x128 .f32 × FVec F S128x128 .f32 × FVec F S128x128 .f32 × FVec F S128x128 .f32 :=
  (k0_pay176 v1 (k0_pay134 v1 a), k0_pay178 v1 (k0_pay134 v1 a) (k0_pay136 v1 a b),
    k0_pay180 v1 (k0_pay129 v1 a b) (k0_pay131 v1 a b c) (k0_pay134 v1 a) (k0_pay135 v1 a) (k0_pay136 v1 a b),
    k0_pay181 v1 (k0_pay129 v1 a b) (k0_pay131 v1 a b c) (k0_pay132 v1 a b c d) (k0_pay134 v1 a) (k0_pay135 v1 a) (k0_pay136 v1 a b))

/-- The running maxima after the third. -/
def tops6 (v1 : FVec F S128x8000 .f32) (a b c d : FVec F S128x128 .f32) : FVec F S128x128 .f32 × FVec F S128x128 .f32 × FVec F S128x128 .f32 × FVec F S128x128 .f32 :=
  (k0_pay268 v1 (k0_pay226 v1 a), k0_pay270 v1 (k0_pay226 v1 a) (k0_pay228 v1 a b),
    k0_pay272 v1 (k0_pay221 v1 a b) (k0_pay223 v1 a b c) (k0_pay226 v1 a) (k0_pay227 v1 a) (k0_pay228 v1 a b),
    k0_pay273 v1 (k0_pay221 v1 a b) (k0_pay223 v1 a b c) (k0_pay224 v1 a b c d) (k0_pay226 v1 a) (k0_pay227 v1 a) (k0_pay228 v1 a b))

/-- The running maxima after the fourth. -/
def tops8 (v1 : FVec F S128x8000 .f32) (a b c d : FVec F S128x128 .f32) : FVec F S128x128 .f32 × FVec F S128x128 .f32 × FVec F S128x128 .f32 × FVec F S128x128 .f32 :=
  (k0_pay360 v1 (k0_pay318 v1 a), k0_pay362 v1 (k0_pay318 v1 a) (k0_pay320 v1 a b),
    k0_pay364 v1 (k0_pay313 v1 a b) (k0_pay315 v1 a b c) (k0_pay318 v1 a) (k0_pay319 v1 a) (k0_pay320 v1 a b),
    k0_pay365 v1 (k0_pay313 v1 a b) (k0_pay315 v1 a b c) (k0_pay316 v1 a b c d) (k0_pay318 v1 a) (k0_pay319 v1 a) (k0_pay320 v1 a b))

/-- The maxima after the first six parts. -/
def topsB (x : Vec F S32x4x8000 .f32) :=
  let p := tops2 x
  let q := tops4 (k0_pay2 x) p.1 p.2.1 p.2.2.1 p.2.2.2
  let r := tops6 (k0_pay2 x) q.1 q.2.1 q.2.2.1 q.2.2.2
  tops8 (k0_pay2 x) r.1 r.2.1 r.2.2.1 r.2.2.2

/-- The candidates: four per lane. -/
def cand (x : Vec F S32x4x8000 .f32) : FVec F S128x512 .f32 :=
  k0_pay366 (k0_pay2 x) (topsB x).1 (topsB x).2.1 (topsB x).2.2.1 (topsB x).2.2.2

/-- The threshold the candidates give. -/
def fastThr (x : Vec F S32x4x8000 .f32) : FVec F S128x1 .f32 := (fastSt (cand x) 11).1.1

/-- The threshold of the loop over the whole tile. -/
def slowThr (x : Vec F S32x4x8000 .f32) : FVec F S128x1 .f32 := (slowSt (k0_pay378 (k0_pay2 x)) 11).1.1

/-- The condition of the branch: not every row has at most ten entries above the candidates' threshold. -/
def slowCond (x : Vec F S32x4x8000 .f32) : BitVec 1 :=
  Scalar.cmpi .ne (Scalar.extui (Scalar.xori (Scalar.cmpf .ole (k0_pay376 (k0_pay375 (k0_pay2 x) (fastThr x))) (Scalar.ofBits .f32 0x41200000#32)) 1#1) : BitVec 32) 0#32

/-- The threshold the body uses. -/
def thr (x : Vec F S32x4x8000 .f32) : FVec F S128x1 .f32 :=
  if slowCond x = 1#1 then k0_pay387 (slowThr x) else k0_pay377 (fastThr x)

/-- The output window's buffer after the body, from the input windows' blocks. -/
def out0_7 (x0 : Vec F S32x4x8000 .f32) (x1 : Vec F S32x4x1024 .f32) (x2 : Vec F S1024x1024 .f32) (x3 x4 x5 : Vec F S1x1024 .f32)
    (x6 : Vec F S8000x1024 .bf16) : Vec F S32x4x1024 .f32 :=
  k0_pay1 (k0_pay388 (k0_pay2 x0) (thr x0) x6) (k0_pay389 x1 x2 x3) (k0_pay390 x1 x2 x3) (k0_pay391 x1 x2 x3) x4 x5

section access

variable {s : Shape} {e : EltTy}

/-- A load of a whole buffer continues at the contents the buffer is owned with. -/
theorem wp_load_owns (𝒱 : Variants) (c : Dev nD) (bd : Option 𝒱.V) (E : Set ℕ) (m : Memref sig .tc .vmem s e) {q : PosShare TreeShare} {X : s.Idx → Elt F e}
    {off : Fin s.rank → ℕ} (h0 : off = fun _ => 0) {inb : ∀ a, off a + s.size a ≤ s.size a} {hl : m.view.LoadsAt (Rect.unit (s := s) off s.size inb).toLoadRect}
    {α : Type} {k : (s.Idx → Elt F e) → Prog (TpuEff nD τ sig (Elt F) Λ₀ .tc) α} {Q : α → sProp 𝕄} :
    owns (c : Thread nD τ) m q X ⊢ iprop((owns (c : Thread nD τ) m q X -∗ wp frame (wpE (defs₀ (F := F)) 𝒱 (c : Thread nD τ) bd) E (k X) Q)
      -∗ wp frame (wpE (defs₀ (F := F)) 𝒱 (c : Thread nD τ) bd) E (Prog.lift (.load m (Rect.unit (s := s) off s.size inb).toLoadRect hl) >>= k) Q) := by
  rw [show (Prog.lift (.load m (Rect.unit (s := s) off s.size inb).toLoadRect hl) >>= k : Prog (TpuEff nD τ sig (Elt F) Λ₀ .tc) α)
    = .op (.load m (Rect.unit (s := s) off s.size inb).toLoadRect hl) k from rfl]
  unfold owns
  iintro ⟨%f, %hf, H⟩ Hk
  sl_step
  rw [View.readAt_eq_ld, View.ld_unit_zero h0 inb, hf]
  iapply Hk
  iexists f; isplitr; · ipureintro; exact hf
  iexact H

/-- A store over a whole buffer leaves it owned at what is stored. -/
theorem wp_store_owns (𝒱 : Variants) (c : Dev nD) (bd : Option 𝒱.V) (E : Set ℕ) (m : Memref sig .tc .vmem s e) {X : s.Idx → Elt F e}
    {off : Fin s.rank → ℕ} (h0 : off = fun _ => 0) {inb : ∀ a, off a + s.size a ≤ s.size a} {w : s.Idx → Elt F e}
    {hx : (m.access (Rect.unit (s := s) off s.size inb)).Stores Finset.univ} {hm}
    {α : Type} {k : PUnit → Prog (TpuEff nD τ sig (Elt F) Λ₀ .tc) α} {Q : α → sProp 𝕄} :
    owns (c : Thread nD τ) m fullShare X ⊢ iprop((owns (c : Thread nD τ) m fullShare w -∗ wp frame (wpE (defs₀ (F := F)) 𝒱 (c : Thread nD τ) bd) E (k ⟨⟩) Q)
      -∗ wp frame (wpE (defs₀ (F := F)) 𝒱 (c : Thread nD τ) bd) E (Prog.lift (.store m (Rect.unit (s := s) off s.size inb) w Finset.univ hx hm) >>= k) Q) := by
  rw [show (Prog.lift (.store m (Rect.unit (s := s) off s.size inb) w Finset.univ hx hm) >>= k : Prog (TpuEff nD τ sig (Elt F) Λ₀ .tc) α)
    = .op (.store m (Rect.unit (s := s) off s.size inb) w Finset.univ hx hm) k from rfl]
  unfold owns
  iintro ⟨%f, %hf, H⟩ Hk
  sl_step
  iapply Hk
  iexists _; isplitr
  swap; · iexact H
  ipureintro
  exact (View.read_writes_eq_canon _ _ [⟨Rect.unit (s := s) off s.size inb, w⟩] (fun y => ⟨_, List.mem_singleton_self _, View.mem_set_unit_zero h0 inb y⟩)).trans
    (View.canon_unit_zero h0 inb w)

end access

set_option maxHeartbeats 1000000 in
/-- One trip of the candidate loop, as its recursion's step. -/
theorem fastSt_trip (𝒱 : Variants) (c : Dev nD) (bd : Option 𝒱.V) (E : Set ℕ) (i : grid0.Coords) (arg1 : Memref sig .tc .vmem S32x4x8000 .f32) (harg1 : arg1.IsWhole) (arg2 : Memref sig .tc .vmem S32x4x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S8000x1024 .bf16) (harg7 : arg7.IsWhole) (arg8 : Memref sig .tc .vmem S32x4x1024 .f32) (harg8 : arg8.IsWhole) (arg9 : Memref sig .tc .vmem S128x512 .f32) (harg9 : arg9.IsWhole) (arg10 : Memref sig .tc .vmem S128x8000 .f32) (harg10 : arg10.IsWhole) (arg11 : Memref sig .tc .vmem S128x1 .f32) (harg11 : arg11.IsWhole) (v1 : FVec F S128x8000 .f32) (v468 v470 v472 v474 : FVec F S128x128 .f32)
    (y : FVec F S128x512 .f32) (k : Fin k0_t1_loop.trips) (acc : FVec F S128x1 .f32 × FVec F S128x1 .f32) :
    (iprop(owns (c : Thread nD τ) arg9 fullShare (fastSt y k).2 ∗ ⌜acc = (fastSt y k).1⌝) : sProp 𝕄)
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 v1 v468 v470 v472 v474 k acc)
        (fun acc' => iprop(owns (c : Thread nD τ) arg9 fullShare (fastSt y (k.val + 1)).2 ∗ ⌜acc' = (fastSt y (k.val + 1)).1⌝)) := by
  unfold k0_t1_body
  iintro ⟨H, %h⟩
  subst h
  iapply (wp_load_owns 𝒱 c bd E arg9 (by decide)) $$ H
  iintro H
  iapply (wp_load_owns 𝒱 c bd E arg9 (by decide)) $$ H
  iintro H
  iapply (wp_store_owns 𝒱 c bd E arg9 (by decide)) $$ H
  iintro H
  sl_step
  isplitl [H]
  · iexact H
  ipureintro; rfl

set_option maxHeartbeats 1000000 in
/-- One trip of the whole-tile loop, as its recursion's step. -/
theorem slowSt_trip (𝒱 : Variants) (c : Dev nD) (bd : Option 𝒱.V) (E : Set ℕ) (i : grid0.Coords) (arg1 : Memref sig .tc .vmem S32x4x8000 .f32) (harg1 : arg1.IsWhole) (arg2 : Memref sig .tc .vmem S32x4x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S8000x1024 .bf16) (harg7 : arg7.IsWhole) (arg8 : Memref sig .tc .vmem S32x4x1024 .f32) (harg8 : arg8.IsWhole) (arg9 : Memref sig .tc .vmem S128x512 .f32) (harg9 : arg9.IsWhole) (arg10 : Memref sig .tc .vmem S128x8000 .f32) (harg10 : arg10.IsWhole) (arg11 : Memref sig .tc .vmem S128x1 .f32) (harg11 : arg11.IsWhole) (v1 : FVec F S128x8000 .f32) (v519_0 : FVec F S128x1 .f32) (v523 : FVec F S128x8000 .f32)
    (y : FVec F S128x8000 .f32) (k : Fin k0_t2_loop.trips) (acc : FVec F S128x1 .f32 × FVec F S128x1 .f32) :
    (iprop(owns (c : Thread nD τ) arg10 fullShare (slowSt y k).2 ∗ ⌜acc = (slowSt y k).1⌝) : sProp 𝕄)
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 v1 v519_0 v523 k acc)
        (fun acc' => iprop(owns (c : Thread nD τ) arg10 fullShare (slowSt y (k.val + 1)).2 ∗ ⌜acc' = (slowSt y (k.val + 1)).1⌝)) := by
  unfold k0_t2_body
  iintro ⟨H, %h⟩
  subst h
  iapply (wp_load_owns 𝒱 c bd E arg10 (by decide)) $$ H
  iintro H
  iapply (wp_load_owns 𝒱 c bd E arg10 (by decide)) $$ H
  iintro H
  iapply (wp_store_owns 𝒱 c bd E arg10 (by decide)) $$ H
  iintro H
  sl_step
  isplitl [H]
  · iexact H
  ipureintro; rfl

/-- The candidate loop makes 11 trips. -/
theorem trips1 : k0_t1_loop.trips = 11 := by decide +kernel
/-- The loop over the whole tile makes 11 trips. -/
theorem trips2 : k0_t2_loop.trips = 11 := by decide +kernel

set_option maxHeartbeats 1000000 in
/-- The part holding the candidate loop. -/
theorem sound_part9 (𝒱 : Variants) (c : Dev nD) (bd : Option 𝒱.V) (E : Set ℕ) (i : grid0.Coords) (arg1 : Memref sig .tc .vmem S32x4x8000 .f32) (harg1 : arg1.IsWhole) (arg2 : Memref sig .tc .vmem S32x4x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S8000x1024 .bf16) (harg7 : arg7.IsWhole) (arg8 : Memref sig .tc .vmem S32x4x1024 .f32) (harg8 : arg8.IsWhole) (arg9 : Memref sig .tc .vmem S128x512 .f32) (harg9 : arg9.IsWhole) (arg10 : Memref sig .tc .vmem S128x8000 .f32) (harg10 : arg10.IsWhole) (arg11 : Memref sig .tc .vmem S128x1 .f32) (harg11 : arg11.IsWhole) (v1 : FVec F S128x8000 .f32) (v468 v470 v472 v474 : FVec F S128x128 .f32) (y : FVec F S128x512 .f32)
    (hy : k0_pay366 v1 v468 v470 v472 v474 = y) (X9 : FVec F S128x512 .f32) (Q : (Σ' (v519_0 : FVec F S128x1 .f32), FVec F S128x8000 .f32) → sProp 𝕄) :
    iprop(owns (c : Thread nD τ) arg9 fullShare X9 ∗ (owns (c : Thread nD τ) arg9 fullShare (fastSt y 11).2 -∗ Q ⟨(fastSt y 11).1.1, k0_pay375 v1 (fastSt y 11).1.1⟩))
      ⊢ wp frame (wpE (defs₀ (F := F)) 𝒱 (c : Thread nD τ) bd) E (k0_part9 i arg1 harg1 arg2 harg2 arg3 harg3 arg4 harg4 arg5 harg5 arg6 harg6 arg7 harg7 arg8 harg8 arg9 harg9 arg10 harg10 arg11 harg11 v1 v468 v470 v472 v474) Q := by
  rw [k0_part9_eq_skeleton]; unfold k0_part9_skel
  iintro ⟨H, Hk⟩
  iapply (wp_load_owns 𝒱 c bd E arg9 (by decide)) $$ H
  iintro H
  iapply (wp_store_owns 𝒱 c bd E arg9 (by decide)) $$ H
  iintro H
  rw [hy]
  iapply (Scf.wp_for_bind Idealize.ShloMosaic.frame (wpE (defs₀ (F := F)) 𝒱 (c : Thread nD τ) bd) E _ _ _ _ _ _
    (fun k acc => iprop(owns (c : Thread nD τ) arg9 fullShare (fastSt y k).2 ∗ ⌜acc = (fastSt y k).1⌝))
    (fun k acc => fastSt_trip 𝒱 c bd E i arg1 harg1 arg2 harg2 arg3 harg3 arg4 harg4 arg5 harg5 arg6 harg6 arg7 harg7 arg8 harg8 arg9 harg9 arg10 harg10 arg11 harg11 v1 v468 v470 v472 v474 y k acc)) $$ [H]
  · isplitl [H]
    · iexact H
    ipureintro; rfl
  iintro %acc ⟨H, %h⟩
  rw [show Scf.trips k0_t1_loop.lb k0_t1_loop.ub k0_t1_loop.st = 11 from trips1] at h ⊢
  obtain ⟨a, b⟩ := acc
  rw [← h]
  dsimp only
  sl_step
  iapply Hk $$ H

set_option maxHeartbeats 2000000 in
/-- The last part: the branch, then the loads and the two matrix products. -/
theorem sound_part10 (𝒱 : Variants) (c : Dev nD) (bd : Option 𝒱.V) (E : Set ℕ) (i : grid0.Coords) (arg1 : Memref sig .tc .vmem S32x4x8000 .f32) (harg1 : arg1.IsWhole) (arg2 : Memref sig .tc .vmem S32x4x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S8000x1024 .bf16) (harg7 : arg7.IsWhole) (arg8 : Memref sig .tc .vmem S32x4x1024 .f32) (harg8 : arg8.IsWhole) (arg9 : Memref sig .tc .vmem S128x512 .f32) (harg9 : arg9.IsWhole) (arg10 : Memref sig .tc .vmem S128x8000 .f32) (harg10 : arg10.IsWhole) (arg11 : Memref sig .tc .vmem S128x1 .f32) (harg11 : arg11.IsWhole) (v1 : FVec F S128x8000 .f32) (v519_0 : FVec F S128x1 .f32) (v523 : FVec F S128x8000 .f32) (t : FVec F S128x1 .f32)
    (ht : (if Scalar.cmpi .ne (Scalar.extui (Scalar.xori (Scalar.cmpf .ole (k0_pay376 v523) (Scalar.ofBits .f32 0x41200000#32)) 1#1) : BitVec 32) 0#32 = 1#1 then k0_pay387 (slowSt (k0_pay378 v1) 11).1.1 else k0_pay377 v519_0) = t)
    (x1 : Vec F S32x4x1024 .f32) (x2 : Vec F S1024x1024 .f32) (x3 : Vec F S1x1024 .f32) (x6 : Vec F S8000x1024 .bf16)
    (X10 : FVec F S128x8000 .f32) (X11 : FVec F S128x1 .f32)
    (Q : (Σ' (v545 : FVec F S128x1024 .f32) (v554 : FVec F S128x1024 .f32) (v558 : FVec F S128x1 .f32), FVec F S128x1024 .f32) → sProp 𝕄) :
    iprop(owns (c : Thread nD τ) arg2 fullShare x1 ∗ owns (c : Thread nD τ) arg3 fullShare x2 ∗ owns (c : Thread nD τ) arg4 fullShare x3 ∗ owns (c : Thread nD τ) arg7 fullShare x6 ∗ owns (c : Thread nD τ) arg10 fullShare X10 ∗ owns (c : Thread nD τ) arg11 fullShare X11
      ∗ (iprop(owns (c : Thread nD τ) arg2 fullShare x1 ∗ owns (c : Thread nD τ) arg3 fullShare x2 ∗ owns (c : Thread nD τ) arg4 fullShare x3 ∗ owns (c : Thread nD τ) arg7 fullShare x6 ∗ (∃ d, owns (c : Thread nD τ) arg10 fullShare d) ∗ (∃ d, owns (c : Thread nD τ) arg11 fullShare d))
        -∗ Q ⟨k0_pay388 v1 t x6, k0_pay389 x1 x2 x3, k0_pay390 x1 x2 x3, k0_pay391 x1 x2 x3⟩))
      ⊢ wp frame (wpE (defs₀ (F := F)) 𝒱 (c : Thread nD τ) bd) E (k0_part10 i arg1 harg1 arg2 harg2 arg3 harg3 arg4 harg4 arg5 harg5 arg6 harg6 arg7 harg7 arg8 harg8 arg9 harg9 arg10 harg10 arg11 harg11 v1 v519_0 v523) Q := by
  rw [k0_part10_eq_skeleton]; unfold k0_part10_skel
  iintro ⟨H2, H3, H4, H7, H10, H11, Hk⟩
  iapply (wp_load_owns 𝒱 c bd E arg11 (by decide)) $$ H11
  iintro H11
  iapply (wp_store_owns 𝒱 c bd E arg11 (by decide)) $$ H11
  iintro H11
  by_cases hc : Scalar.cmpi .ne (Scalar.extui (Scalar.xori (Scalar.cmpf .ole (k0_pay376 v523) (Scalar.ofBits .f32 0x41200000#32)) 1#1) : BitVec 32) 0#32 = 1#1
  · rw [if_pos hc] at ht ⊢
    subst ht
    iapply (wp_load_owns 𝒱 c bd E arg10 (by decide)) $$ H10
    iintro H10
    iapply (wp_store_owns 𝒱 c bd E arg10 (by decide)) $$ H10
    iintro H10
    iapply (Scf.wp_for_bind Idealize.ShloMosaic.frame (wpE (defs₀ (F := F)) 𝒱 (c : Thread nD τ) bd) E _ _ _ _ _ _
      (fun k acc => iprop(owns (c : Thread nD τ) arg10 fullShare (slowSt (k0_pay378 v1) k).2 ∗ ⌜acc = (slowSt (k0_pay378 v1) k).1⌝))
      (fun k acc => slowSt_trip 𝒱 c bd E i arg1 harg1 arg2 harg2 arg3 harg3 arg4 harg4 arg5 harg5 arg6 harg6 arg7 harg7 arg8 harg8 arg9 harg9 arg10 harg10 arg11 harg11 v1 v519_0 v523 (k0_pay378 v1) k acc)) $$ [H10]
    · isplitl [H10]
      · iexact H10
      ipureintro; rfl
    iintro %acc ⟨H10, %h⟩
    rw [show Scf.trips k0_t2_loop.lb k0_t2_loop.ub k0_t2_loop.st = 11 from trips2] at h ⊢
    obtain ⟨a, b⟩ := acc
    rw [← h]
    iapply (wp_load_owns 𝒱 c bd E arg11 (by decide)) $$ H11
    iintro H11
    iapply (wp_store_owns 𝒱 c bd E arg11 (by decide)) $$ H11
    iintro H11
    iapply (wp_load_owns 𝒱 c bd E arg11 (by decide)) $$ H11
    iintro H11
    iapply (wp_load_owns 𝒱 c bd E arg7 (by decide)) $$ H7
    iintro H7
    iapply (wp_load_owns 𝒱 c bd E arg2 (by decide)) $$ H2
    iintro H2
    iapply (wp_load_owns 𝒱 c bd E arg3 (by decide)) $$ H3
    iintro H3
    iapply (wp_load_owns 𝒱 c bd E arg4 (by decide)) $$ H4
    iintro H4
    sl_step
    iapply Hk
    isplitl [H2]; · iexact H2
    isplitl [H3]; · iexact H3
    isplitl [H4]; · iexact H4
    isplitl [H7]; · iexact H7
    isplitl [H10]; · iexists _; iexact H10
    iexists _; iexact H11
  · rw [if_neg hc] at ht ⊢
    subst ht
    iapply (wp_load_owns 𝒱 c bd E arg11 (by decide)) $$ H11
    iintro H11
    iapply (wp_load_owns 𝒱 c bd E arg7 (by decide)) $$ H7
    iintro H7
    iapply (wp_load_owns 𝒱 c bd E arg2 (by decide)) $$ H2
    iintro H2
    iapply (wp_load_owns 𝒱 c bd E arg3 (by decide)) $$ H3
    iintro H3
    iapply (wp_load_owns 𝒱 c bd E arg4 (by decide)) $$ H4
    iintro H4
    sl_step
    iapply Hk
    isplitl [H2]; · iexact H2
    isplitl [H3]; · iexact H3
    isplitl [H4]; · iexact H4
    isplitl [H7]; · iexact H7
    isplitl [H10]; · iexists _; iexact H10
    iexists _; iexact H11

set_option maxHeartbeats 4000000 in
/-- The kernel body on whole staging buffers, the inputs' at read contents and the output's and the scratches' at anything,
    runs to the continuation holding the inputs' as they were, the output's at `out0_7` of them and the scratches at something. -/
theorem sound_kernel (𝒱 : Variants) (c : Dev nD) (bd : Option 𝒱.V) (E : Set ℕ) (i : grid0.Coords) (arg1 : Memref sig .tc .vmem S32x4x8000 .f32) (harg1 : arg1.IsWhole) (arg2 : Memref sig .tc .vmem S32x4x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S8000x1024 .bf16) (harg7 : arg7.IsWhole) (arg8 : Memref sig .tc .vmem S32x4x1024 .f32) (harg8 : arg8.IsWhole) (arg9 : Memref sig .tc .vmem S128x512 .f32) (harg9 : arg9.IsWhole) (arg10 : Memref sig .tc .vmem S128x8000 .f32) (harg10 : arg10.IsWhole) (arg11 : Memref sig .tc .vmem S128x1 .f32) (harg11 : arg11.IsWhole)
    (x0 : Vec F S32x4x8000 .f32) (x1 : Vec F S32x4x1024 .f32) (x2 : Vec F S1024x1024 .f32) (x3 x4 x5 : Vec F S1x1024 .f32)
    (x6 : Vec F S8000x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) 𝒱 (c : Thread nD τ) bd) E (cc0__fused_body i arg1 harg1 arg2 harg2 arg3 harg3 arg4 harg4 arg5 harg5 arg6 harg6 arg7 harg7 arg8 harg8 arg9 harg9 arg10 harg10 arg11 harg11) K := by
  rw [cc0__fused_body_eq_skeleton]; unfold cc0__fused_body_skel
  iintro ⟨H1, H2, H3, H4, H5, H6, H7, ⟨%d8, H8⟩, ⟨%d9, H9⟩, ⟨%d10, H10⟩, ⟨%d11, H11⟩, Hk⟩
  simp only [k0_part1_eq_skeleton, k0_part2_eq_skeleton, k0_part3_eq_skeleton, k0_part4_eq_skeleton, k0_part5_eq_skeleton,
    k0_part6_eq_skeleton, k0_part7_eq_skeleton, k0_part8_eq_skeleton]
  unfold k0_part1_skel
  iapply (wp_load_owns 𝒱 c bd E arg1 (by decide)) $$ H1
  iintro H1
  unfold k0_part2_skel k0_part3_skel k0_part4_skel k0_part5_skel k0_part6_skel k0_part7_skel k0_part8_skel
  simp only [pure_bind]
  rw [wp_bind]
  iapply (sound_part9 𝒱 c bd E i arg1 harg1 arg2 harg2 arg3 harg3 arg4 harg4 arg5 harg5 arg6 harg6 arg7 harg7 arg8 harg8 arg9 harg9 arg10 harg10 arg11 harg11 _ _ _ _ _ (cand x0) rfl)
  isplitl [H9]; · iexact H9
  iintro H9
  rw [wp_bind]
  iapply (sound_part10 𝒱 c bd E i arg1 harg1 arg2 harg2 arg3 harg3 arg4 harg4 arg5 harg5 arg6 harg6 arg7 harg7 arg8 harg8 arg9 harg9 arg10 harg10 arg11 harg11 _ _ _ (thr x0) rfl x1 x2 x3 x6)
  isplitl [H2]; · iexact H2
  isplitl [H3]; · iexact H3
  isplitl [H4]; · iexact H4
  isplitl [H7]; · iexact H7
  isplitl [H10]; · iexact H10
  isplitl [H11]; · iexact H11
  iintro ⟨H2, H3, H4, H7, H10, H11⟩
  iapply (wp_load_owns 𝒱 c bd E arg5 (by decide)) $$ H5
  iintro H5
  iapply (wp_load_owns 𝒱 c bd E arg6 (by decide)) $$ H6
  iintro H6
  iapply (wp_load_owns 𝒱 c bd E arg8 (by decide)) $$ H8
  iintro H8
  iapply (wp_store_owns 𝒱 c bd E arg8 (by decide)) $$ H8
  iintro H8
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  iexact H11

/-! ## The pipeline's proof data -/

variable (m : (ℓ : Loc nD τ sig) → Buf (Elt F) ℓ) (ρ : Dev nD → PrngReg)

/-- On core `c`: the arrays as the region finds them; after the body at point `t` each input's buffer at its block and the
    output's at `out0_7` of the input blocks; the invariant the scratches at anything and the generator register. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are what the region finds. -/
theorem A_eq (c : Dev nD) (w : Fin cfg0.W) : (dats m 0 c).A w = V m c (Pipeline.arrRef spec0 w) := by
  dsimp only [dats]

/-- The body leaves input block 0 as it was. -/
theorem after0_0 (c : Dev nD) (t : Fin cfg0.N) : (dats m 0 c).after 0 t = iblk m c 0 t := by dsimp only [dats]
/-- The body leaves input block 1 as it was. -/
theorem after0_1 (c : Dev nD) (t : Fin cfg0.N) : (dats m 0 c).after 1 t = iblk m c 1 t := by dsimp only [dats]
/-- The body leaves input block 2 as it was. -/
theorem after0_2 (c : Dev nD) (t : Fin cfg0.N) : (dats m 0 c).after 2 t = iblk m c 2 t := by dsimp only [dats]
/-- The body leaves input block 3 as it was. -/
theorem after0_3 (c : Dev nD) (t : Fin cfg0.N) : (dats m 0 c).after 3 t = iblk m c 3 t := by dsimp only [dats]
/-- The body leaves input block 4 as it was. -/
theorem after0_4 (c : Dev nD) (t : Fin cfg0.N) : (dats m 0 c).after 4 t = iblk m c 4 t := by dsimp only [dats]
/-- The body leaves input block 5 as it was. -/
theorem after0_5 (c : Dev nD) (t : Fin cfg0.N) : (dats m 0 c).after 5 t = iblk m c 5 t := by dsimp only [dats]
/-- The body leaves input block 6 as it was. -/
theorem after0_6 (c : Dev nD) (t : Fin cfg0.N) : (dats m 0 c).after 6 t = iblk m c 6 t := by dsimp only [dats]
/-- What the body leaves in the output window's buffer. -/
theorem after0_7 (c : Dev nD) (t : Fin cfg0.N) : (dats m 0 c).after 7 t = out0_7 (iblk m c 0 t) (iblk m c 1 t) (iblk m c 2 t) (iblk m c 3 t) (iblk m c 4 t) (iblk m c 5 t) (iblk m c 6 t) := by dsimp only [dats]

/-- At every grid step the body finds input block 0 in place. -/
theorem before0_0 (c : Dev nD) (t : Fin cfg0.N) (d) : (dats m 0 c).before 0 t d = iblk m c 0 t :=
  before0_0_of m (dats m 0 c) (A_eq m c 0) (after0_0 m c) t d
/-- At every grid step the body finds input block 1 in place. -/
theorem before0_1 (c : Dev nD) (t : Fin cfg0.N) (d) : (dats m 0 c).before 1 t d = iblk m c 1 t :=
  before0_1_of m (dats m 0 c) (A_eq m c 1) (after0_1 m c) t d
/-- At every grid step the body finds input block 2 in place. -/
theorem before0_2 (c : Dev nD) (t : Fin cfg0.N) (d) : (dats m 0 c).before 2 t d = iblk m c 2 t :=
  before0_2_of m (dats m 0 c) (A_eq m c 2) (after0_2 m c) t d
/-- At every grid step the body finds input block 3 in place. -/
theorem before0_3 (c : Dev nD) (t : Fin cfg0.N) (d) : (dats m 0 c).before 3 t d = iblk m c 3 t :=
  before0_3_of m (dats m 0 c) (A_eq m c 3) (after0_3 m c) t d
/-- At every grid step the body finds input block 4 in place. -/
theorem before0_4 (c : Dev nD) (t : Fin cfg0.N) (d) : (dats m 0 c).before 4 t d = iblk m c 4 t :=
  before0_4_of m (dats m 0 c) (A_eq m c 4) (after0_4 m c) t d
/-- At every grid step the body finds input block 5 in place. -/
theorem before0_5 (c : Dev nD) (t : Fin cfg0.N) (d) : (dats m 0 c).before 5 t d = iblk m c 5 t :=
  before0_5_of m (dats m 0 c) (A_eq m c 5) (after0_5 m c) t d
/-- At every grid step the body finds input block 6 in place. -/
theorem before0_6 (c : Dev nD) (t : Fin cfg0.N) (d) : (dats m 0 c).before 6 t d = iblk m c 6 t :=
  before0_6_of m (dats m 0 c) (A_eq m c 6) (after0_6 m c) t d

/-! ## The body obligation -/

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, the scratches are taken out of the invariant and put back. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before0_0, before0_1, before0_2, before0_3, before0_4, before0_5, before0_6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7]
  unfold Pipeline.ΦA
  rw [scopedRest0_eq]
  iintro ⟨⟨⟨⟨%f9, S9⟩, ⟨%f10, S10⟩, ⟨%f11, S11⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel Variants.none c none Set.univ _ _ _ _ _ _ _ _ _ _ _ _ _ _ _ _ _ _ _ _ _ _ _ (iblk m c 0 t) (iblk m c 1 t) (iblk m c 2 t) (iblk m c 3 t) (iblk m c 4 t) (iblk m c 5 t) (iblk m c 6 t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [S9]
  · iexists f9; rw [owns_whole_eq]; iexists f9; isplitr; · ipureintro; rfl
    iexact S9
  isplitl [S10]
  · iexists f10; rw [owns_whole_eq]; iexists f10; isplitr; · ipureintro; rfl
    iexact S10
  isplitl [S11]
  · iexists f11; rw [owns_whole_eq]; iexists f11; isplitr; · ipureintro; rfl
    iexact S11
  simp only [owns_whole_eq]
  iintro ⟨H0, H1, H2, H3, H4, H5, H6, H7, ⟨%g9, %h9, %e9, S9⟩, ⟨%g10, %h10, %e10, S10⟩, ⟨%g11, %h11, %e11, S11⟩⟩
  isplitl [S9 S10 S11 Hr]
  · isplitl [S9 S10 S11]
    · isplitl [S9]; · iexists _; iexact S9
      isplitl [S10]; · iexists _; iexact S10
      iexists _; iexact S11
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- At point `t`'s slots the body table holds the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The run ends with every array at what the proof data says and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run ends with every array at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Proof.KernelIdealBody

end
-- ==== Proof.Threshold.lean ====
/-
  The threshold of the eleventh greatest entry of a row, with no program in it: what it is, that there is one only, and
  that eleven rounds of "take the maximum, count its ties, blank them" find it.
-/
module

public import Idealize.ShloMosaic.PureOps.Ideal.Laws

@[expose] public section

noncomputable section

namespace Cert.Proof.Threshold

variable {ι : Type} [Fintype ι] [DecidableEq ι]

open Classical in
/-- `t` is the threshold of a row `x`: at most ten entries lie above it and at least eleven lie at or above it. -/
def IsThr (x : ι → EReal) (t : EReal) : Prop :=
  (Finset.univ.filter fun i => t < x i).card ≤ 10 ∧ 11 ≤ (Finset.univ.filter fun i => t ≤ x i).card

/-- A row has one threshold at most. -/
theorem IsThr.unique {x : ι → EReal} {t t' : EReal} (h : IsThr x t) (h' : IsThr x t') : t = t' := by
  classical
  have key : ∀ {a b : EReal}, IsThr x a → IsThr x b → ¬ a < b := fun {a b} ha hb hab => by
    have h1 : (Finset.univ.filter fun i => b ≤ x i).card ≤ (Finset.univ.filter fun i => a < x i).card :=
      Finset.card_le_card fun i hi => by
        simp only [Finset.mem_filter, Finset.mem_univ, true_and] at hi ⊢
        exact lt_of_lt_of_le hab hi
    have h2 := ha.1
    have h3 := hb.2
    simp only [IsThr] at *
    omega
  exact le_antisymm (not_lt.1 (key h' h)) (not_lt.1 (key h h'))

/-- The greatest entry of a row, from `-∞`. -/
def rowMax (v : ι → EReal) : EReal := Finset.univ.fold max ⊥ v

/-- Every entry is at most the maximum. -/
theorem le_rowMax (v : ι → EReal) (i : ι) : v i ≤ rowMax v :=
  (Finset.le_fold_max (v i)).2 (Or.inr ⟨i, Finset.mem_univ i, le_rfl⟩)

/-- A bound of every entry bounds the maximum. -/
theorem rowMax_le {v : ι → EReal} {b : EReal} (h : ∀ i, v i ≤ b) : rowMax v ≤ b :=
  (Finset.fold_max_le b).2 ⟨bot_le, fun i _ => h i⟩

/-- The maximum is attained. -/
theorem exists_eq_rowMax [Nonempty ι] (v : ι → EReal) : ∃ i, v i = rowMax v := by
  obtain ⟨i, -, hi⟩ := Finset.exists_max_image Finset.univ v Finset.univ_nonempty
  exact ⟨i, le_antisymm (le_rowMax v i) (rowMax_le fun j => hi j (Finset.mem_univ j))⟩

open Classical in
/-- How many entries of the row satisfy `p`, as an extended real. -/
def rowCount (p : ι → Prop) : EReal := ∑ i, if p i then 1 else 0

/-- A sum of ones is a number of entries. -/
theorem sum_ite_one (p : ι → Prop) [DecidablePred p] (S : Finset ι) :
    (∑ i ∈ S, if p i then (1 : EReal) else 0) = (((S.filter p).card : ℝ) : EReal) := by
  induction S using Finset.induction_on with
  | empty => simp
  | insert a S ha ih =>
    rw [Finset.sum_insert ha, ih, Finset.filter_insert]
    by_cases hp : p a
    · rw [if_pos hp, if_pos hp, Finset.card_insert_of_notMem (fun h => ha (Finset.mem_filter.1 h).1)]
      push_cast
      rw [add_comm]
    · rw [if_neg hp, if_neg hp, zero_add]

/-- The count is the number of entries. -/
theorem rowCount_eq (p : ι → Prop) [DecidablePred p] : rowCount p = (((Finset.univ.filter p).card : ℝ) : EReal) := by
  rw [← sum_ite_one]
  unfold rowCount
  exact Finset.sum_congr rfl fun i _ => by by_cases hp : p i <;> simp [hp]

open Classical in
/-- One round on a row: threshold, entries still needed, entries left. -/
def step (s : EReal × EReal × (ι → EReal)) : EReal × EReal × (ι → EReal) :=
  (if 0 < s.2.1 ∧ s.2.1 ≤ rowCount (fun i => s.2.2 i = rowMax s.2.2) then rowMax s.2.2 else s.1,
    s.2.1 - rowCount (fun i => s.2.2 i = rowMax s.2.2),
    fun i => if s.2.2 i = rowMax s.2.2 then ((-2 : ℝ) : EReal) else s.2.2 i)

/-- What holds after `k` rounds from the row `x`: the threshold is found, or the entries `S` taken so far are at least
    `k` and at most ten, all greater than the rest. -/
def Inv (x : ι → EReal) (k : ℕ) (s : EReal × EReal × (ι → EReal)) : Prop :=
  (∃ z : ℝ, z ≤ 0 ∧ s.2.1 = (z : EReal) ∧ IsThr x s.1) ∨
    (∃ S : Finset ι, (∀ i ∈ S, ∀ j, j ∉ S → x j < x i) ∧ k ≤ S.card ∧ S.card ≤ 10 ∧
      s.2.1 = (((11 : ℝ) - (S.card : ℝ) : ℝ) : EReal) ∧ s.2.2 = fun i => if i ∈ S then ((-2 : ℝ) : EReal) else x i)

/-- A round keeps the invariant. -/
theorem Inv.step {x : ι → EReal} (hx : ∀ i, ((-2 : ℝ) : EReal) < x i) (hn : 11 ≤ Fintype.card ι) {k : ℕ}
    {s : EReal × EReal × (ι → EReal)} (h : Inv x k s) : Inv x (k + 1) (step s) := by
  classical
  rcases h with ⟨z, hz, hs, ht⟩ | ⟨S, hup, hk, h10, hs, hv⟩
  · refine Or.inl ⟨z - ((Finset.univ.filter fun i => s.2.2 i = rowMax s.2.2).card : ℝ), ?_, ?_, ?_⟩
    · have : (0 : ℝ) ≤ ((Finset.univ.filter fun i => s.2.2 i = rowMax s.2.2).card : ℝ) := Nat.cast_nonneg _
      linarith
    · simp only [Threshold.step, hs, rowCount_eq, EReal.coe_sub]
    · have : ¬ (0 : EReal) < (z : EReal) := by simpa using hz
      simpa only [Threshold.step, hs, this, false_and, if_false] using ht
  · -- the entries left and their maximum
    have hlt : S.card < Fintype.card ι := by omega
    obtain ⟨j₀, hj₀⟩ : ∃ j, j ∉ S := by
      by_contra hc
      push Not at hc
      exact absurd (Finset.card_le_card (fun i _ => hc i : (Finset.univ : Finset ι) ⊆ S)) (by rw [Finset.card_univ]; omega)
    haveI : Nonempty ι := ⟨j₀⟩
    set m := rowMax s.2.2 with hm
    have hle : ∀ i, i ∉ S → x i ≤ m := fun i hi => by
      have := le_rowMax s.2.2 i
      rw [hv] at this
      simp only [hi, if_false] at this
      rw [hm, hv]; exact this
    have h2m : ((-2 : ℝ) : EReal) < m := lt_of_lt_of_le (hx j₀) (hle j₀ hj₀)
    have hiff : ∀ i, s.2.2 i = m ↔ i ∉ S ∧ x i = m := fun i => by
      have : s.2.2 i = if i ∈ S then ((-2 : ℝ) : EReal) else x i := by rw [hv]
      rw [this]
      by_cases hi : i ∈ S
      · simp only [hi, if_true, not_true_eq_false, false_and, iff_false]; exact h2m.ne
      · simp [hi]
    obtain ⟨i₀, hi₀⟩ := exists_eq_rowMax s.2.2
    set E := Finset.univ.filter fun i => s.2.2 i = m with hE
    have hmemE : ∀ i, i ∈ E ↔ i ∉ S ∧ x i = m := fun i => by simp [hE, hiff]
    have hE1 : 1 ≤ E.card := Finset.card_pos.2 ⟨i₀, by simp only [hE, Finset.mem_filter, Finset.mem_univ, true_and]; exact hi₀⟩
    have hdis : Disjoint S E := Finset.disjoint_left.2 fun i hi hi' => ((hmemE i).1 hi').1 hi
    have hcard : (S ∪ E).card = S.card + E.card := Finset.card_union_of_disjoint hdis
    have hcnt : rowCount (fun i => s.2.2 i = m) = ((E.card : ℝ) : EReal) := by rw [rowCount_eq]
    have hpos : (0 : EReal) < (((11 : ℝ) - (S.card : ℝ) : ℝ) : EReal) := by
      have : (S.card : ℝ) ≤ 10 := by exact_mod_cast h10
      exact_mod_cast (by linarith : (0 : ℝ) < 11 - (S.card : ℝ))
    by_cases hhit : 11 - (S.card : ℝ) ≤ (E.card : ℝ)
    · refine Or.inl ⟨11 - (S.card : ℝ) - (E.card : ℝ), by linarith, ?_, ?_⟩
      · simp only [Threshold.step, ← hm, hs, hcnt, EReal.coe_sub]
      · have : (Threshold.step s).1 = m := by
          simp only [Threshold.step, ← hm, hs, hcnt]
          exact if_pos ⟨hpos, by exact_mod_cast hhit⟩
        rw [this]
        refine ⟨le_trans (Finset.card_le_card (t := S) fun i hi => ?_) h10, ?_⟩
        · simp only [Finset.mem_filter, Finset.mem_univ, true_and] at hi
          by_contra hc
          exact absurd (hle i hc) (not_le.2 hi)
        · have h11 : 11 ≤ (S ∪ E).card := by
            rw [hcard]
            have : (11 : ℝ) ≤ ((S.card + E.card : ℕ) : ℝ) := by push_cast; linarith
            exact_mod_cast this
          refine le_trans h11 (Finset.card_le_card fun i hi => ?_)
          simp only [Finset.mem_filter, Finset.mem_univ, true_and]
          rcases Finset.mem_union.1 hi with hi | hi
          · have hj := (hmemE i₀).1 (by simp only [hE, Finset.mem_filter, Finset.mem_univ, true_and]; exact hi₀)
            rw [← hj.2]
            exact (hup i hi i₀ hj.1).le
          · exact ((hmemE i).1 hi).2.ge
    · refine Or.inr ⟨S ∪ E, ?_, by omega, ?_, ?_, ?_⟩
      · intro i hi j hj
        have hjS : j ∉ S := fun h => hj (Finset.mem_union_left _ h)
        have hjE : j ∉ E := fun h => hj (Finset.mem_union_right _ h)
        rcases Finset.mem_union.1 hi with hi | hi
        · exact hup i hi j hjS
        · rw [((hmemE i).1 hi).2]
          exact lt_of_le_of_ne (hle j hjS) fun h => hjE ((hmemE j).2 ⟨hjS, h⟩)
      · rw [hcard]
        have : ((S.card + E.card : ℕ) : ℝ) < (11 : ℝ) := by push_cast; linarith
        have : S.card + E.card < 11 := by exact_mod_cast this
        omega
      · simp only [Threshold.step, ← hm, hs, hcnt, hcard]
        rw [← EReal.coe_sub]
        congr 1
        push_cast
        ring
      · funext i
        simp only [Threshold.step, ← hm]
        by_cases hi : i ∈ S
        · have h1 : ¬ s.2.2 i = m := fun h => ((hiff i).1 h).1 hi
          rw [if_neg h1, if_pos (Finset.mem_union_left _ hi), hv]
          simp only [hi, if_true]
        · by_cases hi' : i ∈ E
          · rw [if_pos ((hiff i).2 ((hmemE i).1 hi')), if_pos (Finset.mem_union_right _ hi')]
          · have h1 : ¬ s.2.2 i = m := fun h => hi' ((hmemE i).2 ((hiff i).1 h))
            have h2 : i ∉ S ∪ E := fun h => (Finset.mem_union.1 h).elim hi hi'
            rw [if_neg h1, if_neg h2, hv]
            simp only [hi, if_false]

/-- Eleven rounds from a row whose entries all exceed `-2` find its threshold. -/
theorem isThr_step {x : ι → EReal} (hx : ∀ i, ((-2 : ℝ) : EReal) < x i) (hn : 11 ≤ Fintype.card ι) (t₀ : EReal) :
    IsThr x ((Threshold.step)^[11] (t₀, ((11 : ℝ) : EReal), x)).1 := by
  have h0 : Inv x 0 (t₀, ((11 : ℝ) : EReal), x) :=
    Or.inr ⟨∅, fun i hi => absurd hi (Finset.notMem_empty i), le_rfl, by simp, by simp, by simp⟩
  have hk : ∀ k, Inv x k ((Threshold.step)^[k] (t₀, ((11 : ℝ) : EReal), x)) := fun k => by
    induction k with
    | zero => exact h0
    | succ k ih => rw [Function.iterate_succ_apply']; exact ih.step hx hn
  rcases hk 11 with ⟨_, _, _, h⟩ | ⟨S, _, h1, h2, _⟩
  · exact h
  · omega

end Cert.Proof.Threshold

end
-- ==== Proof.Readings.lean ====
/-
  What single operations of the kernel give at one index, over the extended reals.
-/
module

public import proofs.«01_k».proof.Proof.Threshold
public import Idealize.ShloMosaic.Lib.ValueIdxCore
public import Idealize.ShloMosaic.Lib.ValueLayoutCasts
public import Idealize.ShloMosaic.Lib.Pipeline.Value

@[expose] public section

noncomputable section

namespace Cert.Proof.Readings

open Idealize.ShloMosaic Idealize.ShloMosaic.ValueIdx Cert.Proof.Threshold

/-- The word for 11. -/
theorem ofBits_eleven : Ideal.ofBits .f32 0x41300000#32 = ((11 : ℝ) : EReal) := by
  simp [Ideal.ofBits, Ideal.ieee]
  rw [← EReal.coe_mul]
  norm_num

/-- The word for 10. -/
theorem ofBits_ten : Ideal.ofBits .f32 0x41200000#32 = ((10 : ℝ) : EReal) := by
  simp [Ideal.ofBits, Ideal.ieee]
  rw [← EReal.coe_mul]
  norm_num

/-- The word for -2. -/
theorem ofBits_neg_two : Ideal.ofBits .f32 0xC0000000#32 = ((-2 : ℝ) : EReal) := by
  simp [Ideal.ofBits, Ideal.ieee]
  rw [← EReal.coe_mul]
  norm_num

/-- The word for -1. -/
theorem ofBits_neg_one : Ideal.ofBits .f32 0xBF800000#32 = ((-1 : ℝ) : EReal) := by
  simp [Ideal.ofBits, Ideal.ieee]
  rw [← EReal.coe_mul]
  norm_num

/-- The word for minus infinity. -/
theorem ofBits_bot : Ideal.ofBits .f32 0xFF800000#32 = ⊥ := by
  simp [Ideal.ofBits, Ideal.ieee]

/-- The word for 1024. -/
theorem ofBits_1024 : Ideal.ofBits .f32 0x44800000#32 = ((1024 : ℝ) : EReal) := by
  simp [Ideal.ofBits, Ideal.ieee]
  rw [← EReal.coe_mul]
  norm_num

/-- The word added to the variance is a positive real. -/
theorem ofBits_eps : ∃ e : ℝ, 0 < e ∧ Ideal.ofBits .f32 0x3727C5AC#32 = (e : EReal) := by
  refine ⟨10995116 * (2 ^ 40)⁻¹, by norm_num, ?_⟩
  simp [Ideal.ofBits, Ideal.ieee]

/-- The greatest entry of a row. -/
theorem max_row {m n : ℕ} (v : FVec Ideal ⟨2, ![m, n]⟩ .f32) (h : Shape.Reduces ⟨2, ![m, n]⟩ [1] ⟨1, ![m]⟩)
    (hφ : FKind.Formats .f32) (hacc : (0xFF800000#32 : BitVec 32) = FKind.maximumf.neutral .f32 hφ) (r : Fin m) :
    multiReduction .maximumf [1] ⟨1, ![m]⟩ v 0xFF800000#32 h hφ hacc (ix1 r) = rowMax fun j : Fin n => v (ix2 r j) := by
  rw [Ideal.multiReduction_maximumf_single]
  show Finset.fold max (Ideal.ofBits .f32 0xFF800000#32) _ _ = _
  rw [ofBits_bot]
  unfold rowMax
  congr 1
  funext j
  exact congrArg v (by funext a; fin_cases a <;> rfl)

/-- The sum of a row. -/
theorem sum_row {m n : ℕ} (v : FVec Ideal ⟨2, ![m, n]⟩ .f32) (acc : BitVec 32) (h : Shape.Reduces ⟨2, ![m, n]⟩ [1] ⟨1, ![m]⟩)
    (hφ : FKind.Formats .f32) (hacc : acc = FKind.add.neutral .f32 hφ) (r : Fin m) :
    multiReduction .add [1] ⟨1, ![m]⟩ v acc h hφ hacc (ix1 r) = ∑ j : Fin n, v (ix2 r j) := by
  rw [Ideal.multiReduction_add_single]
  refine Finset.sum_congr rfl fun j _ => ?_
  exact congrArg v (by funext a; fin_cases a <;> rfl)

/-- A column spread over `n` columns. -/
theorem broadcastTo_col {α : Type} {m n : ℕ} (v : (⟨2, ![m, 1]⟩ : Shape).Idx → α) (h : Shape.Broadcasts ⟨2, ![m, 1]⟩ ⟨2, ![m, n]⟩)
    (r : Fin m) (j : Fin n) : broadcastTo ⟨2, ![m, n]⟩ v h (ix2 r j) = v (ix2 r 0) :=
  broadcastTo_apply v h _ _ (fun a => by
    fin_cases a
    · show r.val = if m = 1 then 0 else r.val
      split_ifs with h1
      · omega
      · rfl
    · exact (if_pos rfl).symm)

/-- A truth value as a number. -/
theorem sitofp_extui (b : BitVec 1) : FloatOps.sitofp (F := Ideal) .f32 (b.setWidth 32) = if b = 1#1 then (1 : EReal) else 0 := by
  show (((b.setWidth 32).toInt : ℝ) : EReal) = _
  rcases (by decide : ∀ b : BitVec 1, b = 0#1 ∨ b = 1#1) b with rfl | rfl
  · simp
  · simp

/-- The bit of a decision is one where the proposition holds. -/
theorem ofBool_iff (p : Prop) [Decidable p] : BitVec.ofBool (decide p) = 1#1 ↔ p := by
  by_cases h : p <;> simp [h]

/-- What a comparison of extended reals says. -/
theorem cmpf_one (p : CmpFPredicate) (a b : Ideal .f32) :
    FloatOps.cmpf p a b = 1#1 ↔ match p with
      | .oeq | .ueq => a = b
      | .ogt | .ugt => b < a
      | .oge | .uge => b ≤ a
      | .olt | .ult => a < b
      | .ole | .ule => a ≤ b
      | .one | .une => a ≠ b
      | .ord => True
      | .uno => False := by
  rw [Ideal.cmpf_def]
  unfold Ideal.cmp
  cases p <;> first | exact ofBool_iff _ | simp

end Cert.Proof.Readings

end
-- ==== Proof.Formula.lean ====
/-
  The mathematics of one output row, with no program in it: the layer normalisation of a row over the extended reals,
  once with the reciprocal root and once with the quotient by the root, and the sum over the kept entries.
-/
module

public import proofs.«01_k».proof.Proof.Readings

@[expose] public section

noncomputable section

namespace Cert.Proof.Formula

open Idealize.ShloMosaic

variable {n : ℕ}

/-- A row's sum over `d`. -/
def mean (h : Fin n → EReal) (d : EReal) : EReal := Ideal.div (∑ j, h j) d

/-- A row's variance. -/
def var (h : Fin n → EReal) (d : EReal) : EReal := Ideal.div (∑ j, (h j - mean h d) * (h j - mean h d)) d

/-- A row normalised, by the reciprocal root. -/
def norm (h : Fin n → EReal) (d e : EReal) (j : Fin n) : EReal := (h j - mean h d) * Ideal.rsqrt (var h d + e)

/-- A row normalised, by the quotient with the root. -/
def normQ (h : Fin n → EReal) (d e : EReal) (j : Fin n) : EReal := Ideal.div (h j - mean h d) (Ideal.sqrt (var h d + e))

/-- The sum of the rows of a table with the entries above `t` as weights. -/
def soft (x : Fin n → EReal) (t : EReal) (w : Fin n → EReal) : EReal :=
  ∑ k, Scalar.select (Ideal.cmp .ogt (x k) t) (x k) 0 * w k

/-- A square is nonnegative. -/
theorem sq_nonneg' (a : EReal) : 0 ≤ a * a := by
  rcases le_total 0 a with h | h
  · exact mul_nonneg h h
  · have h' : 0 ≤ -a := by rw [EReal.le_neg]; simpa using h
    have := mul_nonneg h' h'
    rwa [neg_mul_neg] at this

/-- A nonnegative number divided by a positive one is nonnegative. -/
theorem div_nonneg' {a : EReal} {d : ℝ} (ha : 0 ≤ a) (hd : 0 < d) : 0 ≤ Ideal.div a (d : EReal) := by
  have h0 : ((d : ℝ) : EReal) ≠ 0 := by exact_mod_cast hd.ne'
  unfold Ideal.div
  rw [if_neg h0]
  refine mul_nonneg ha ?_
  rw [← EReal.coe_inv]
  exact_mod_cast (inv_pos.2 hd).le

/-- The variance is nonnegative. -/
theorem var_nonneg (h : Fin n → EReal) {d : ℝ} (hd : 0 < d) : 0 ≤ var h (d : EReal) :=
  div_nonneg' (Finset.sum_nonneg fun _ _ => sq_nonneg' _) hd

/-- Times the reciprocal root is over the root, for a positive radicand. -/
theorem div_sqrt (a y : EReal) (hy : 0 < y) : Ideal.div a (Ideal.sqrt y) = a * Ideal.rsqrt y := by
  induction y using EReal.rec with
  | bot => exact absurd hy (by simp)
  | top =>
    show Ideal.div a ⊤ = a * 0
    unfold Ideal.div
    rw [if_neg (by simp), EReal.inv_top]
  | coe r =>
    have hr : 0 < r := by exact_mod_cast hy
    have hs : 0 < Real.sqrt r := Real.sqrt_pos.2 hr
    have h0 : ((Real.sqrt r : ℝ) : EReal) ≠ 0 := by exact_mod_cast hs.ne'
    show Ideal.div a (if r < 0 then ⊥ else ((Real.sqrt r : ℝ) : EReal))
      = a * (if r < 0 then ⊥ else if r = 0 then ⊤ else (((Real.sqrt r)⁻¹ : ℝ) : EReal))
    rw [if_neg (not_lt.2 hr.le), if_neg (not_lt.2 hr.le), if_neg hr.ne']
    unfold Ideal.div
    rw [if_neg h0, EReal.coe_inv]

/-- The two normalisations are one. -/
theorem normQ_eq (h : Fin n → EReal) {d e : ℝ} (hd : 0 < d) (he : 0 < e) (j : Fin n) :
    normQ h (d : EReal) (e : EReal) j = norm h (d : EReal) (e : EReal) j := by
  refine div_sqrt _ _ ?_
  have he' : (0 : EReal) < (e : EReal) := by exact_mod_cast he
  calc (0 : EReal) < e := he'
    _ = 0 + e := (zero_add _).symm
    _ ≤ var h (d : EReal) + e := by gcongr; exact var_nonneg h hd

/-- One output entry: the normalised row, scaled, shifted and cut at zero, plus the sum over the kept entries. -/
def out (h : Fin n → EReal) (d e g b s : EReal) (j : Fin n) : EReal := max (norm h d e j * g + b) 0 + s

/-- The same with the other normalisation. -/
def outQ (h : Fin n → EReal) (d e g b s : EReal) (j : Fin n) : EReal := max (normQ h d e j * g + b) 0 + s

/-- The result with the quotient by the square root is the result with the reciprocal square root. -/
theorem outQ_eq (h : Fin n → EReal) {d e : ℝ} (hd : 0 < d) (he : 0 < e) (g b s : EReal) (j : Fin n) :
    outQ h (d : EReal) (e : EReal) g b s j = out h (d : EReal) (e : EReal) g b s j := by
  unfold outQ out
  rw [normQ_eq h hd he j]

end Cert.Proof.Formula
-- ==== Proof.BlockValue.lean ====
/-
  What one grid step of the kernel writes, entry by entry, as the formula of Formula.lean.
-/
module

public import proofs.«01_k».proof.Proof.KernelIdealBody
public import proofs.«01_k».proof.Proof.Formula
public import Idealize.ShloMosaic.Lib.MatmulPlain
public import Idealize.ShloMosaic.Lib.ValueLayout

@[expose] public section

noncomputable section

namespace Cert.Proof.BlockValue

open Idealize.ShloMosaic Idealize.ShloMosaic.ValueIdx Cert.KernelIdeal Cert.Proof.Readings Cert.Proof.Formula
open Cert.Proof.KernelIdealBody Cert.KernelIdeal.Gen

/-- The sum over the kept entries. -/
theorem pay388_apply (v : FVec Ideal S128x8000 .f32) (t : Vec Ideal S128x1 .f32) (w : Vec Ideal S8000x1024 .bf16)
    (r : Fin 128) (c : Fin 1024) :
    k0_pay388 (F := Ideal) v t w (ix2 r c) = soft (fun k : Fin 8000 => v (ix2 r k)) (t (ix2 r 0)) (fun k => w (ix2 k c)) := by
  unfold k0_pay388
  refine (Ideal.matmul_plain_apply (M := 128) (K := 8000) (N := 1024) none _ _ _ r c).trans ?_
  refine (congrArg₂ (· + ·) Ideal.ofBits_zero_f32 rfl).trans ((zero_add _).trans ?_)
  unfold soft
  refine Finset.sum_congr rfl fun k _ => ?_
  rw [shapeCast_self]
  refine congrArg₂ (· * ·) ?_ rfl
  show Scalar.select (Ideal.cmp .ogt (v (ix2 r k)) (broadcastTo S128x8000 t broadcasts_S128x1_S128x8000 (ix2 r k))) (v (ix2 r k))
    (Ideal.ofBits .f32 0x00000000#32) = _
  rw [Ideal.ofBits_zero_f32]
  exact congrArg (fun z => Scalar.select (Ideal.cmp .ogt (v (ix2 r k)) z) (v (ix2 r k)) 0) (broadcastTo_col t _ r k)

/-- The rows of a `32 × 4` block, one below the other. -/
theorem rows_apply {α : Type} {n : ℕ} (x : (⟨3, ![32, 4, n]⟩ : Shape).Idx → α)
    (h : (⟨3, ![32, 4, n]⟩ : Shape).ShapeCasts ⟨2, ![128, n]⟩) (p : Fin 32) (q : Fin 4) (r : Fin 128) (hr : r.val = p.val * 4 + q.val)
    (j : Fin n) : shapeCast ⟨2, ![128, n]⟩ x h (ix2 r j) = x (ix3 p q j) :=
  shapeCast_apply x h _ _ (by
    rw [Shape.rowMajor_val_two, Shape.rowMajor_val_three]
    show (p.val * 4 + q.val) * n + j.val = r.val * n + j.val
    rw [hr])

/-- And back. -/
theorem unrows_apply {α : Type} {n : ℕ} (x : (⟨2, ![128, n]⟩ : Shape).Idx → α)
    (h : (⟨2, ![128, n]⟩ : Shape).ShapeCasts ⟨3, ![32, 4, n]⟩) (p : Fin 32) (q : Fin 4) (r : Fin 128) (hr : r.val = p.val * 4 + q.val)
    (j : Fin n) : shapeCast ⟨3, ![32, 4, n]⟩ x h (ix3 p q j) = x (ix2 r j) :=
  shapeCast_apply x h _ _ (by
    rw [Shape.rowMajor_val_two, Shape.rowMajor_val_three]
    show r.val * n + j.val = (p.val * 4 + q.val) * n + j.val
    rw [hr])

/-- The linear layer. -/
theorem pay389_apply (x1 : Vec Ideal S32x4x1024 .f32) (x2 : Vec Ideal S1024x1024 .f32) (x3 : Vec Ideal S1x1024 .f32)
    (p : Fin 32) (q : Fin 4) (r : Fin 128) (hr : r.val = p.val * 4 + q.val) (j : Fin 1024) :
    k0_pay389 (F := Ideal) x1 x2 x3 (ix2 r j)
      = (∑ k : Fin 1024, (x1 (ix3 p q k) : EReal) * x2 (ix2 k j)) + x3 (ix2 0 j) := by
  unfold k0_pay389
  rw [shapeCast_self, shapeCast_self]
  refine congrArg₂ (· + ·) ?_ (broadcastTo_1b_ab_apply x3 _ r j)
  refine (Ideal.matmul_plain_apply (M := 128) (K := 1024) (N := 1024) none _ _ _ r j).trans ?_
  refine (congrArg₂ (· + ·) Ideal.ofBits_zero_f32 rfl).trans ((zero_add _).trans ?_)
  exact Finset.sum_congr rfl fun k _ => congrArg₂ (· * ·) (rows_apply x1 _ p q r hr k) rfl

/-- The mean of a row. -/
theorem pay390_apply (x1 : Vec Ideal S32x4x1024 .f32) (x2 : Vec Ideal S1024x1024 .f32) (x3 : Vec Ideal S1x1024 .f32)
    (r : Fin 128) :
    k0_pay390 (F := Ideal) x1 x2 x3 (ix2 r 0)
      = mean (fun j : Fin 1024 => k0_pay389 (F := Ideal) x1 x2 x3 (ix2 r j)) (Ideal.ofBits .f32 0x44800000#32) := by
  unfold k0_pay390
  generalize k0_pay389 (F := Ideal) x1 x2 x3 = v
  refine congrArg₂ Ideal.div ?_ rfl
  exact (shapeCast_a_a1_apply (a := 128) _ _ r 0).trans (sum_row (m := 128) (n := 1024) v _ _ _ _ r)

/-- The means repeated along their rows. -/
theorem pay391_apply (x1 : Vec Ideal S32x4x1024 .f32) (x2 : Vec Ideal S1024x1024 .f32) (x3 : Vec Ideal S1x1024 .f32)
    (r : Fin 128) (j : Fin 1024) :
    k0_pay391 (F := Ideal) x1 x2 x3 (ix2 r j) = k0_pay390 (F := Ideal) x1 x2 x3 (ix2 r 0) := by
  unfold k0_pay391
  generalize k0_pay390 (F := Ideal) x1 x2 x3 = v
  exact broadcastTo_col (m := 128) (n := 1024) v _ r j

/-- The normalisation and what follows, from the linear layer `h`, its means `u` and the sums over the kept entries `s`. -/
theorem pay1_apply (s h : FVec Ideal S128x1024 .f32) (u : FVec Ideal S128x1 .f32) (u' : FVec Ideal S128x1024 .f32)
    (g b : Vec Ideal S1x1024 .f32) (p : Fin 32) (q : Fin 4) (r : Fin 128) (hr : r.val = p.val * 4 + q.val) (c : Fin 1024)
    (hu : (u (ix2 r 0) : EReal) = mean (fun j : Fin 1024 => h (ix2 r j)) (Ideal.ofBits .f32 0x44800000#32))
    (hu' : ∀ j, u' (ix2 r j) = u (ix2 r 0)) :
    k0_pay1 (F := Ideal) s h u u' g b (ix3 p q c)
      = out (fun j : Fin 1024 => h (ix2 r j)) (Ideal.ofBits .f32 0x44800000#32) (Ideal.ofBits .f32 0x3727C5AC#32)
          (g (ix2 0 c)) (b (ix2 0 c)) (s (ix2 r c)) c := by
  unfold k0_pay1
  rw [shapeCast_self, shapeCast_self]
  refine (unrows_apply (n := 1024) _ _ p q r hr c).trans ?_
  unfold out
  refine congrArg₂ (· + ·) ?_ rfl
  refine congrArg₂ max ?_ Ideal.ofBits_zero_f32
  refine congrArg₂ (· + ·) ?_ (broadcastTo_1b_ab_apply b _ r c)
  refine congrArg₂ (· * ·) ?_ (broadcastTo_1b_ab_apply g _ r c)
  unfold Formula.norm
  refine congrArg₂ (· * ·) ?_ ?_
  · refine congrArg₂ (· - ·) rfl ?_
    exact (broadcastTo_col (m := 128) (n := 1024) u _ r c).trans hu
  · refine (broadcastTo_col (m := 128) (n := 1024) _ _ r c).trans ?_
    refine congrArg Ideal.rsqrt ?_
    refine congrArg₂ (· + ·) ?_ rfl
    unfold var
    refine congrArg₂ Ideal.div ?_ rfl
    refine (shapeCast_a_a1_apply (a := 128) _ _ r 0).trans ?_
    refine (sum_row (m := 128) (n := 1024) _ _ _ _ _ r).trans ?_
    refine Finset.sum_congr rfl fun j _ => ?_
    have e : (h (ix2 r j) : EReal) - u' (ix2 r j) = h (ix2 r j) - mean (fun j : Fin 1024 => h (ix2 r j)) (Ideal.ofBits .f32 0x44800000#32) := by
      rw [hu', hu]
    exact congrArg₂ (· * ·) e e

/-- One entry of what a grid step writes. -/
theorem out0_7_apply (x0 : Vec Ideal S32x4x8000 .f32) (x1 : Vec Ideal S32x4x1024 .f32) (x2 : Vec Ideal S1024x1024 .f32)
    (x3 x4 x5 : Vec Ideal S1x1024 .f32) (x6 : Vec Ideal S8000x1024 .bf16)
    (p : Fin 32) (q : Fin 4) (r : Fin 128) (hr : r.val = p.val * 4 + q.val) (c : Fin 1024) :
    out0_7 (F := Ideal) x0 x1 x2 x3 x4 x5 x6 (ix3 p q c)
      = out (fun j : Fin 1024 => (∑ k : Fin 1024, (x1 (ix3 p q k) : EReal) * x2 (ix2 k j)) + x3 (ix2 0 j))
          (Ideal.ofBits .f32 0x44800000#32) (Ideal.ofBits .f32 0x3727C5AC#32) (x4 (ix2 0 c)) (x5 (ix2 0 c))
          (soft (fun k : Fin 8000 => x0 (ix3 p q k)) (thr (F := Ideal) x0 (ix2 r 0)) (fun k => x6 (ix2 k c))) c := by
  unfold out0_7
  refine (pay1_apply _ _ _ _ x4 x5 p q r hr c (pay390_apply x1 x2 x3 r) (pay391_apply x1 x2 x3 r)).trans ?_
  have e : (fun j : Fin 1024 => (k0_pay389 (F := Ideal) x1 x2 x3 (ix2 r j) : EReal))
      = fun j : Fin 1024 => (∑ k : Fin 1024, (x1 (ix3 p q k) : EReal) * x2 (ix2 k j)) + x3 (ix2 0 j) :=
    funext fun j => pay389_apply x1 x2 x3 p q r hr j
  rw [e, pay388_apply]
  have e' : (fun k : Fin 8000 => (k0_pay2 (F := Ideal) x0 (ix2 r k) : EReal)) = fun k : Fin 8000 => x0 (ix3 p q k) :=
    funext fun k => rows_apply (n := 8000) x0 _ p q r hr k
  rw [e']

end Cert.Proof.BlockValue
-- ==== Proof.RefThr.lean ====
/-
  The threshold the reference takes: the entry at place ten of a row sorted from the greatest down is the threshold of the
  row in the sense of Threshold.lean.
-/
module

public import proofs.«01_k».proof.Proof.Threshold
public import proofs.«01_k».proof.Proof.Gen.ReferenceIdeal.Read
public import Idealize.ShloMosaic.Lib.SortFacts
public import Idealize.ShloMosaic.Lib.ValueIdxCore

@[expose] public section

noncomputable section

namespace Cert.Proof.RefThr

open Idealize.ShloMosaic Idealize.ShloMosaic.ValueIdx Cert.Proof.Threshold Cert.ReferenceIdeal

/-- A choice between two values that agree where the first is taken is the second. -/
theorem select_same {α : Type} (c : BitVec 1) (x y : α) (h : c = 1#1 → x = y) : Scalar.select c x y = y := by
  unfold Scalar.select
  split_ifs with hc
  · exact h hc
  · rfl

/-- Nothing differs from itself. -/
theorem cmp_une_self (l : EReal) : Ideal.cmp .une l l ≠ 1#1 := by
  simp [Ideal.cmp]

/-- Where the comparison says equal, the two are equal. -/
theorem cmp_oeq (l z : EReal) (h : Ideal.cmp .oeq l z = 1#1) : z = l := by
  by_contra hne
  have : l ≠ z := fun e => hne e.symm
  simp [Ideal.cmp, this] at h

/-- The sort's rewriting of its keys leaves every key as it is. -/
theorem canonical (l z w : EReal) :
    Scalar.select (Ideal.cmp .une l l) w (Scalar.select (Ideal.cmp .oeq l z) z l) = l := by
  rw [select_same _ z l (cmp_oeq l z)]
  exact select_same _ w l fun h => absurd h (cmp_une_self l)

/-- The comparison `olt` is the order. -/
theorem cmp_olt (l r : EReal) : Ideal.cmp .olt l r = 1#1 ↔ l < r := by
  by_cases h : l < r <;> simp [Ideal.cmp, h]

/-- The comparator of the sort is "less than". -/
theorem comparator_iff (l r : EReal) : comparator_f32_d2 (F := Ideal) l r = 1#1 ↔ l < r := by
  have e : comparator_f32_d2 (F := Ideal) l r = Ideal.cmp .olt l r := by
    unfold comparator_f32_d2
    show Ideal.cmp .olt (Scalar.select (Ideal.cmp .une l l) _ (Scalar.select (Ideal.cmp .oeq l _) _ l))
      (Scalar.select (Ideal.cmp .une r r) _ (Scalar.select (Ideal.cmp .oeq r _) _ r)) = _
    rw [canonical, canonical]
  rw [e, cmp_olt]

/-- Sorting the negated entries upwards and negating the one at place ten gives the threshold. -/
theorem isThr_sorted {n : ℕ} (x : Fin n → EReal) (R : Fin n → Fin n → Bool) (hR : ∀ k k', R k k' = true ↔ - x k < - x k')
    (p : Fin n) (hp : p.val = 10) : IsThr x (x (sortedFrom R p)) := by
  classical
  have hlt : ∀ {k k'}, R k k' = true ↔ x k' < x k := fun {k k'} => by rw [hR, EReal.neg_lt_neg_iff]
  have hno : ∀ i j : Fin n, i < j → x (sortedFrom R j) ≤ x (sortedFrom R i) := fun i j hij => by
    have := sortedFrom_noInversion R R
      (fun a b h => by
        rw [Bool.eq_false_iff]; intro h'
        exact lt_asymm (hlt.1 h) (hlt.1 h'))
      (fun a b h => h)
      (fun a b c h h' => by
        rw [Bool.eq_false_iff] at h h' ⊢
        rw [Ne, hlt, not_lt] at h h' ⊢
        exact le_trans h h') i j hij
    rw [Bool.eq_false_iff, Ne, hlt, not_lt] at this
    exact this
  refine ⟨?_, ?_⟩
  · calc _ ≤ ((Finset.Iio p).image (sortedFrom R)).card := Finset.card_le_card fun v hv => by
          simp only [Finset.mem_filter, Finset.mem_univ, true_and] at hv
          obtain ⟨i, rfl⟩ := sortedFrom_surjective R v
          refine Finset.mem_image.2 ⟨i, Finset.mem_Iio.2 ?_, rfl⟩
          by_contra hi
          rcases lt_or_eq_of_le (not_lt.1 hi) with h | h
          · exact absurd hv (not_lt.2 (hno _ _ h))
          · subst h; exact lt_irrefl _ hv
      _ ≤ (Finset.Iio p).card := Finset.card_image_le
      _ = 10 := by rw [Fin.card_Iio, hp]
  · calc 11 = (Finset.Iic p).card := by rw [Fin.card_Iic, hp]
      _ = ((Finset.Iic p).image (sortedFrom R)).card := (Finset.card_image_of_injective _ (sortedFrom_injective R)).symm
      _ ≤ _ := Finset.card_le_card fun v hv => by
          obtain ⟨i, hi, rfl⟩ := Finset.mem_image.1 hv
          simp only [Finset.mem_filter, Finset.mem_univ, true_and]
          rcases lt_or_eq_of_le (Finset.mem_Iic.1 hi) with h | h
          · exact hno _ _ h
          · subst h; exact le_refl _

/-- Replacing the last coordinate of an index. -/
theorem along_ix3 {p m n : ℕ} (a : Fin p) (b : Fin m) (c k : Fin n) (hd : 2 < (⟨3, ![p, m, n]⟩ : Shape).rank) :
    (ix3 a b c : (⟨3, ![p, m, n]⟩ : Shape).Idx).along ⟨2, hd⟩ k = ix3 a b k := by
  funext i
  unfold Shape.Idx.along
  by_cases hi : i = ⟨2, hd⟩
  · subst hi
    exact Function.update_self _ _ _
  · refine (Function.update_of_ne hi _ _).trans ?_
    fin_cases i
    · rfl
    · rfl
    · exact absurd rfl hi

/-- A sort along the last of three dimensions, at one index. -/
theorem sort_ix3 {p m n : ℕ} {α : Type} (cmp : α → α → BitVec 1) (x : (⟨3, ![p, m, n]⟩ : Shape).Idx → α)
    (a : Fin p) (b : Fin m) (c : Fin n) :
    Host.sort ⟨3, ![p, m, n]⟩ 2 cmp x (ix3 a b c)
      = x (ix3 a b (sortedFrom (fun k k' => cmp (x (ix3 a b k)) (x (ix3 a b k')) == 1#1) c)) := by
  have hd : 2 < (⟨3, ![p, m, n]⟩ : Shape).rank := (by decide : 2 < 3)
  have e : ∀ k : Fin n, (ix3 a b c : (⟨3, ![p, m, n]⟩ : Shape).Idx).along ⟨2, hd⟩ k = ix3 a b k :=
    fun k => along_ix3 a b c k hd
  unfold Host.sort
  rw [dif_pos hd]
  refine (congrArg x (e _)).trans ?_
  refine congrArg (fun R => x (ix3 a b (sortedFrom R c))) ?_
  funext k k'
  exact congrArg₂ (fun u v => cmp (x u) (x v) == 1#1) (e k) (e k')

/-- The reference's threshold of a row. -/
theorem ref_isThr (x1 : (⟨S2048x4x8000, .f32⟩ : BufTy).Contents (Elt Ideal)) (a : Fin 2048) (b : Fin 4) (c : Fin 8000)
    (hc : c.val = 10) :
    IsThr (fun k : Fin 8000 => (x1 (ix3 a b k) : EReal)) (Cert.ReferenceIdeal.Read.val_main_v26 (F := Ideal) x1 (ix3 a b c)) := by
  have e : Cert.ReferenceIdeal.Read.val_main_v26 (F := Ideal) x1 (ix3 a b c)
      = x1 (ix3 a b (sortedFrom (fun k k' => comparator_f32_d2 (F := Ideal)
          (Cert.ReferenceIdeal.Read.val_main_v24 (F := Ideal) x1 (ix3 a b k))
          (Cert.ReferenceIdeal.Read.val_main_v24 (F := Ideal) x1 (ix3 a b k')) == 1#1) c)) := by
    rw [Cert.ReferenceIdeal.Read.val_main_v26_apply]
    unfold Cert.ReferenceIdeal.Read.val_main_v25
    rw [sort_ix3, Cert.ReferenceIdeal.Read.val_main_v24_apply]
    exact neg_neg _
  rw [e]
  refine isThr_sorted (fun k : Fin 8000 => (x1 (ix3 a b k) : EReal)) _ (fun k k' => ?_) c hc
  rw [beq_iff_eq, comparator_iff]
  rfl

end Cert.Proof.RefThr
-- ==== Proof.RefValue.lean ====
/-
  What the reference computes, entry by entry, as the formula of Formula.lean.
-/
module

public import proofs.«01_k».proof.Proof.RefThr
public import proofs.«01_k».proof.Proof.Formula

@[expose] public section

noncomputable section

namespace Cert.Proof.RefValue

open Idealize.ShloMosaic Idealize.ShloMosaic.ValueIdx Cert.ReferenceIdeal Cert.ReferenceIdeal.Read
open Cert.Proof.Readings Cert.Proof.Formula Cert.ReferenceIdeal.Facts₀

variable (x0 : (⟨S2048x4x1024, .f32⟩ : BufTy).Contents (Elt Ideal)) (x1 : (⟨S2048x4x8000, .f32⟩ : BufTy).Contents (Elt Ideal))
  (x2 : (⟨S1024x1024, .f32⟩ : BufTy).Contents (Elt Ideal)) (x3 x4 x5 : (⟨S1024, .f32⟩ : BufTy).Contents (Elt Ideal))
  (x6 : (⟨S8000x1024, .f32⟩ : BufTy).Contents (Elt Ideal))

/-- The linear layer of the reference, at one row. -/
def lin (a : Fin 2048) (b : Fin 4) (j : Fin 1024) : EReal :=
  (∑ k : Fin 1024, (x0 (ix3 a b k) : EReal) * x2 (ix2 j k)) + x3 (ix1 j)

/-- The linear layer. -/
theorem v4_row (a : Fin 2048) (b : Fin 4) (j : Fin 1024) :
    val_main_v4 (F := Ideal) x0 x2 x3 (ix3 a b j) = lin x0 x2 x3 a b j := by
  rw [val_main_v4_apply, val_main_v1_apply, val_main_v3_apply, val_main_v2_apply]
  unfold lin
  refine congrArg₂ (· + ·) (Finset.sum_congr rfl fun k _ => ?_) ?_
  · rw [val_main_v0_apply]
    refine congrArg₂ (· * ·) (congrArg x0 ?_) (congrArg x2 ?_)
    · funext i; fin_cases i <;> rfl
    · funext i; fin_cases i <;> rfl
  · refine congrArg x3 ?_
    funext i; fin_cases i; rfl

/-- The zero of the reference's sums. -/
theorem zero_add_ofBits (s : EReal) : Ideal.ofBits .f32 0x00000000#32 + s = s := by
  rw [Ideal.ofBits_zero_f32, zero_add]

/-- The mean of a row. -/
theorem mean_row (a : Fin 2048) (b : Fin 4) :
    val_main_v8 (F := Ideal) x0 x2 x3 (ix3 a b 0) = mean (lin x0 x2 x3 a b) (Ideal.ofBits .f32 0x44800000#32) := by
  rw [val_main_v8_apply, val_main_v6_apply, val_main_v5_apply, val_main_v7_apply]
  unfold mean
  refine congrArg₂ Ideal.div ?_ rfl
  refine (zero_add_ofBits _).trans (Finset.sum_congr rfl fun k _ => ?_)
  rw [← v4_row]
  refine congrArg _ ?_
  funext i; fin_cases i <;> rfl

/-- The mean of a row, the second time it is computed. -/
theorem mean_row' (a : Fin 2048) (b : Fin 4) :
    val_main_call0_v3 (F := Ideal) x0 x2 x3 (ix3 a b 0) = mean (lin x0 x2 x3 a b) (Ideal.ofBits .f32 0x44800000#32) := by
  rw [val_main_call0_v3_apply, val_main_call0_v1_apply, val_main_call0_v0_apply, val_main_call0_v2_apply]
  unfold mean
  refine congrArg₂ Ideal.div ?_ rfl
  refine (zero_add_ofBits _).trans (Finset.sum_congr rfl fun k _ => ?_)
  rw [← v4_row]
  refine congrArg _ ?_
  funext i; fin_cases i <;> rfl

/-- The square of the distance from the mean. -/
theorem dev_row (a : Fin 2048) (b : Fin 4) (j : Fin 1024) :
    val_main_call0_v6 (F := Ideal) x0 x2 x3 (ix3 a b j)
      = (lin x0 x2 x3 a b j - mean (lin x0 x2 x3 a b) (Ideal.ofBits .f32 0x44800000#32))
        * (lin x0 x2 x3 a b j - mean (lin x0 x2 x3 a b) (Ideal.ofBits .f32 0x44800000#32)) := by
  have e : idx_main_call0_v4 (ix3 a b j) = ix3 a b 0 := by funext i; fin_cases i <;> rfl
  rw [val_main_call0_v6_apply, val_main_call0_v5_apply, val_main_call0_v4_apply, e, mean_row', v4_row]
  rfl

/-- The divisor of the variance: the row's length less zero. -/
theorem divisor (i : S_.Idx) : val_main_call0_v8 (F := Ideal) i = Ideal.ofBits .f32 0x44800000#32 := by
  rw [val_main_call0_v8_apply, val_main_call0_v7_apply, val_main_c_apply]
  show Ideal.ofBits .f32 0x44800000#32 - (((0x00000000#32 : BitVec 32).toInt : ℝ) : EReal) = _
  rw [show (0x00000000#32 : BitVec 32).toInt = 0 from by decide]
  simp

/-- The squares of the distances from the mean, summed and divided: the variance of a row. -/
theorem sub_row (a : Fin 2048) (b : Fin 4) :
    val_main_call0_v12 (F := Ideal) x0 x2 x3 (ix3 a b 0) = var (lin x0 x2 x3 a b) (Ideal.ofBits .f32 0x44800000#32) := by
  rw [val_main_call0_v12_apply, val_main_call0_v10_apply, val_main_call0_v9_apply, val_main_call0_v11_apply, divisor]
  unfold var
  refine congrArg₂ Ideal.div ?_ rfl
  refine (zero_add_ofBits _).trans (Finset.sum_congr rfl fun k _ => ?_)
  rw [← dev_row]
  refine congrArg _ ?_
  funext i; fin_cases i <;> rfl

/-- The divisor is positive: the variance is chosen. -/
theorem chosen (i : S_.Idx) : val_main_call0_v13 (F := Ideal) i = 1#1 := by
  rw [val_main_call0_v13_apply, divisor, val_main_call0_cst_3_apply]
  refine (cmpf_one .ogt _ _).2 ?_
  show Ideal.ofBits .f32 0x00000000#32 < Ideal.ofBits .f32 0x44800000#32
  rw [Ideal.ofBits_zero_f32, ofBits_1024]
  exact_mod_cast (by norm_num : (0 : ℝ) < 1024)

/-- The variance of a row, after the choice between it and a value for an empty row. -/
theorem var_row (a : Fin 2048) (b : Fin 4) :
    val_main_v9 (F := Ideal) x0 x2 x3 (ix3 a b 0) = var (lin x0 x2 x3 a b) (Ideal.ofBits .f32 0x44800000#32) := by
  have e : broadcastInDim S2048x4x1 ![] bcast_S_S2048x4x1 (val_main_call0_v13 (F := Ideal)) (ix3 a b 0) = 1#1 := chosen _
  unfold val_main_v9
  show Scalar.select (broadcastInDim S2048x4x1 ![] bcast_S_S2048x4x1 (val_main_call0_v13 (F := Ideal)) (ix3 a b 0)) _ _ = _
  rw [e, ← sub_row]
  rfl

/-- The normalised row. -/
theorem norm_row (a : Fin 2048) (b : Fin 4) (j : Fin 1024) :
    val_main_v16 (F := Ideal) x0 x2 x3 (ix3 a b j)
      = normQ (lin x0 x2 x3 a b) (Ideal.ofBits .f32 0x44800000#32) (Ideal.ofBits .f32 0x3727C5AC#32) j := by
  have e : idx_main_v10 (ix3 a b j) = ix3 a b 0 := by funext i; fin_cases i <;> rfl
  have e' : idx_main_v15 (ix3 a b j) = ix3 a b 0 := by funext i; fin_cases i <;> rfl
  rw [val_main_v16_apply, val_main_v11_apply, val_main_v10_apply, e, mean_row, v4_row, val_main_v15_apply, e', val_main_v14_apply,
    val_main_v13_apply, var_row, val_main_v12_apply]
  rfl

/-- The normalised row scaled, shifted and cut at zero. -/
theorem relu_row (a : Fin 2048) (b : Fin 4) (j : Fin 1024) :
    val_main_v23 (F := Ideal) x0 x2 x3 x4 x5 (ix3 a b j)
      = max (normQ (lin x0 x2 x3 a b) (Ideal.ofBits .f32 0x44800000#32) (Ideal.ofBits .f32 0x3727C5AC#32) j * x4 (ix1 j) + x5 (ix1 j)) 0 := by
  have e : idx_main_v17 (idx_main_v18 (ix3 a b j)) = ix1 j := by funext i; fin_cases i; rfl
  have e' : idx_main_v20 (idx_main_v21 (ix3 a b j)) = ix1 j := by funext i; fin_cases i; rfl
  rw [val_main_v23_apply, val_main_v22_apply, val_main_v19_apply, norm_row, val_main_v18_apply, val_main_v17_apply, e,
    val_main_v21_apply, val_main_v20_apply, e', val_main_call1_v0_apply]
  exact congrArg₂ max rfl Ideal.ofBits_zero_f32

/-- An entry kept or replaced by zero. -/
theorem kept (a : Fin 2048) (b : Fin 4) (k : Fin 8000) (t : Fin 8000) (ht : t.val = 10) :
    val_main_v31 (F := Ideal) x1 (ix3 a b k)
      = Scalar.select (Ideal.cmp .ogt (x1 (ix3 a b k)) (val_main_v26 (F := Ideal) x1 (ix3 a b t))) (x1 (ix3 a b k)) 0 := by
  have e : idx_main_v27 (idx_main_v28 (ix3 a b k)) = ix3 a b t := by
    funext i; fin_cases i
    · rfl
    · rfl
    · exact Fin.ext ht.symm
  rw [val_main_v31_apply, val_main_v29_apply, val_main_v28_apply, val_main_v27_apply, e, val_main_v30_apply]
  exact congrArg (Scalar.select _ _) Ideal.ofBits_zero_f32

/-- The sum over the kept entries. -/
theorem soft_row (a : Fin 2048) (b : Fin 4) (c : Fin 1024) (t : Fin 8000) (ht : t.val = 10) :
    val_main_v34 (F := Ideal) x1 x6 (ix3 a b c)
      = soft (fun k : Fin 8000 => x1 (ix3 a b k)) (val_main_v26 (F := Ideal) x1 (ix3 a b t)) (fun k => x6 (ix2 k c)) := by
  rw [val_main_v34_apply, val_main_v33_apply]
  unfold soft
  have ha := a.isLt
  have hb := b.isLt
  have hc := c.isLt
  refine Finset.sum_congr rfl fun k _ => ?_
  have hk := k.isLt
  rw [val_main_v32_apply, ← kept x1 a b k t ht]
  have h1 : ((a.val * 4 + b.val) * 1024 + c.val) / 1024 = a.val * 4 + b.val := by omega
  have h2 : ((a.val * 4 + b.val) * 1024 + c.val) % 1024 = c.val := by omega
  refine congrArg₂ (· * ·) (congrArg _ ?_) (congrArg _ ?_)
  · funext i
    refine Fin.ext ?_
    fin_cases i
    · show (((a.val * 4 + b.val) * 1024 + c.val) / 1024 * 8000 + k.val) / 32000 = a.val
      rw [h1]; omega
    · show (((a.val * 4 + b.val) * 1024 + c.val) / 1024 * 8000 + k.val) / 8000 % 4 = b.val
      rw [h1]; omega
    · show (((a.val * 4 + b.val) * 1024 + c.val) / 1024 * 8000 + k.val) % 8000 = k.val
      rw [h1]; omega
  · funext i
    refine Fin.ext ?_
    fin_cases i
    · rfl
    · exact h2

/-- One entry of the reference's result. -/
theorem ref_apply (a : Fin 2048) (b : Fin 4) (c : Fin 1024) (t : Fin 8000) (ht : t.val = 10) :
    val_main_v35 (F := Ideal) x0 x1 x2 x3 x4 x5 x6 (ix3 a b c)
      = outQ (lin x0 x2 x3 a b) (Ideal.ofBits .f32 0x44800000#32) (Ideal.ofBits .f32 0x3727C5AC#32) (x4 (ix1 c)) (x5 (ix1 c))
          (soft (fun k : Fin 8000 => x1 (ix3 a b k)) (val_main_v26 (F := Ideal) x1 (ix3 a b t)) (fun k => x6 (ix2 k c))) c := by
  rw [val_main_v35_apply, relu_row, soft_row x1 x6 a b c t ht]
  rfl

end Cert.Proof.RefValue
-- ==== Proof.Candidates.lean ====
/-
  The candidates of the kernel as a fold: each block of 128 columns is inserted lane by lane into four running maxima.
-/
module

public import proofs.«01_k».proof.Proof.KernelIdealBody

@[expose] public section

noncomputable section

namespace Cert.Proof.Candidates

open Cert.KernelIdeal Cert.KernelIdeal.Gen Cert.Proof.KernelIdealBody
open Idealize.ShloMosaic

variable {F : FTy → Type} [FloatOps F]

/-- Four vectors: the four running maxima of every row and lane. -/
abbrev Quad (F : FTy → Type) : Type := FVec F S128x128 .f32 × FVec F S128x128 .f32 × FVec F S128x128 .f32 × FVec F S128x128 .f32

/-- The insertion of a block into the running maxima. -/
def insV (p : Quad F) (x : FVec F S128x128 .f32) : Quad F :=
  (maximumf p.1 x, maximumf p.2.1 (minimumf p.1 x), maximumf p.2.2.1 (minimumf p.2.1 (minimumf p.1 x)),
    maximumf p.2.2.2 (minimumf p.2.2.1 (minimumf p.2.1 (minimumf p.1 x))))

/-- A block of 128 columns from a given column on lies inside the tile. -/
theorem slices_at {o : ℕ} (h : o + 128 ≤ 8000) : S128x8000.Slices ![0, o] S128x128 :=
  ⟨rfl, fun a => by
    fin_cases a
    · exact (by decide : (0 : ℕ) + 128 ≤ 128)
    · exact h⟩

/-- Block `q` of a tile: columns `128 q` to `128 q + 127`. -/
def blkV (v : FVec F S128x8000 .f32) (q : ℕ) (h : q + 1 ≤ 62) : FVec F S128x128 .f32 :=
  extractStridedSlice S128x128 ![0, q * 128] v (slices_at (by omega))

/-- The insertion of `n` blocks from block `lo` on. -/
def runV (v : FVec F S128x8000 .f32) (p : Quad F) (lo : ℕ) : (n : ℕ) → lo + n ≤ 62 → Quad F
  | 0, _ => p
  | n + 1, h => insV (runV v p lo n (by omega)) (blkV v (lo + n) (by omega))

/-- The kernel's first stretch of insertions is the running maxima over its blocks. -/
theorem tops2_eq (x : Vec F S32x4x8000 .f32) :
    tops2 x = runV (k0_pay2 x) (k0_pay3, k0_pay3, k0_pay3, k0_pay3) 0 14 (by decide) := rfl

/-- So is the second, from what the first left. -/
theorem tops4_eq (v : FVec F S128x8000 .f32) (a b c d : FVec F S128x128 .f32) :
    tops4 v a b c d = runV v (a, b, c, d) 14 15 (by decide) := rfl

/-- So is the third. -/
theorem tops6_eq (v : FVec F S128x8000 .f32) (a b c d : FVec F S128x128 .f32) :
    tops6 v a b c d = runV v (a, b, c, d) 29 15 (by decide) := rfl

/-- So is the fourth. -/
theorem tops8_eq (v : FVec F S128x8000 .f32) (a b c d : FVec F S128x128 .f32) :
    tops8 v a b c d = runV v (a, b, c, d) 44 15 (by decide) := rfl

/-- Insertions follow one another. -/
theorem runV_add (v : FVec F S128x8000 .f32) (p : Quad F) (lo n : ℕ) : (k : ℕ) → (h : lo + (n + k) ≤ 62) →
    runV v (runV v p lo n (by omega)) (lo + n) k (by omega) = runV v p lo (n + k) h
  | 0, _ => rfl
  | k + 1, h => by
    have ih := runV_add v p lo n k (by omega)
    show insV (runV v (runV v p lo n _) (lo + n) k _) (blkV v (lo + n + k) _) = insV (runV v p lo (n + k) _) (blkV v (lo + (n + k)) _)
    rw [ih]
    congr 2
    omega

/-- The block of the last 64 columns, in lanes 64 to 127; the other lanes hold `-1`. -/
def tailV (v : FVec F S128x8000 .f32) : FVec F S128x128 .f32 :=
  select (cmpi .sge (iota .tc S128x128 32 [1] (by decide)) (broadcast S128x128 64#32))
    (extractStridedSlice S128x128 ![0, 7872] v (slices_at (by decide))) k0_pay3

/-- The four maxima of every row and lane, all blocks inserted. -/
def quadV (v : FVec F S128x8000 .f32) : Quad F :=
  insV (runV v (k0_pay3, k0_pay3, k0_pay3, k0_pay3) 0 62 (by decide)) (tailV v)

/-- The four stretches together are the running maxima over the first 59 blocks. -/
theorem topsB_eq (x : Vec F S32x4x8000 .f32) :
    topsB x = runV (k0_pay2 x) (k0_pay3, k0_pay3, k0_pay3, k0_pay3) 0 59 (by decide) := by
  rw [← runV_add (k0_pay2 x) _ 0 44 15 (by decide), ← runV_add (k0_pay2 x) _ 0 29 15 (by decide), ← runV_add (k0_pay2 x) _ 0 14 15 (by decide)]
  rfl

/-- The candidates are the four running maxima, the tail inserted, side by side. -/
theorem pay366_eq (v : FVec F S128x8000 .f32) (p : Quad F) (hp : p = runV v (k0_pay3, k0_pay3, k0_pay3, k0_pay3) 0 59 (by decide)) :
    k0_pay366 v p.1 p.2.1 p.2.2.1 p.2.2.2
      = concatenate S128x512 1 [⟨S128x128, (quadV v).1⟩, ⟨S128x128, (quadV v).2.1⟩, ⟨S128x128, (quadV v).2.2.1⟩, ⟨S128x128, (quadV v).2.2.2⟩]
          concatenates_S128x128_S128x128_S128x128_S128x128_S128x512_d1 := by
  have : quadV v = insV (runV v p 59 3 (by decide)) (tailV v) := by
    unfold quadV; rw [hp, runV_add v _ 0 59 3 (by decide)]
  rw [this, ← shapeCast_self (concatenate S128x512 1 _ _) shapeCasts_S128x512_S128x512]
  rfl

/-- The candidates of a tile: the four maxima side by side. -/
theorem cand_eq (x : Vec F S32x4x8000 .f32) :
    cand x = concatenate S128x512 1 [⟨S128x128, (quadV (k0_pay2 x)).1⟩, ⟨S128x128, (quadV (k0_pay2 x)).2.1⟩,
      ⟨S128x128, (quadV (k0_pay2 x)).2.2.1⟩, ⟨S128x128, (quadV (k0_pay2 x)).2.2.2⟩]
        concatenates_S128x128_S128x128_S128x128_S128x128_S128x512_d1 :=
  pay366_eq (k0_pay2 x) (topsB x) (topsB_eq x)

end Cert.Proof.Candidates

end
-- ==== Proof.Rows.lean ====
/-
  The rounds of the kernel's two threshold searches, row by row over the extended reals: each is the round of `Threshold`.
-/
module

public import proofs.«01_k».proof.Proof.Candidates
public import proofs.«01_k».proof.Proof.Readings

@[expose] public section

noncomputable section

namespace Cert.Proof.Rows

open Cert.KernelIdeal Cert.KernelIdeal.Gen Cert.Proof.KernelIdealBody Cert.Proof.Threshold Cert.Proof.Readings
open Idealize.ShloMosaic Idealize.ShloMosaic.ValueIdx

/-- Row `r` of a matrix. -/
def row {m n : ℕ} (v : (⟨2, ![m, n]⟩ : Shape).Idx → EReal) (r : Fin m) : Fin n → EReal := fun j => v (ix2 r j)

section Generic

variable {n : ℕ} (v : FVec Ideal ⟨2, ![128, n]⟩ .f32) (hr : Shape.Reduces ⟨2, ![128, n]⟩ [1] ⟨1, ![128]⟩)
  (hc : (⟨1, ![128]⟩ : Shape).ShapeCasts ⟨2, ![128, 1]⟩) (hb : Shape.Broadcasts ⟨2, ![128, 1]⟩ ⟨2, ![128, n]⟩)

/-- The maxima of the rows, as a column. -/
def maxCol : FVec Ideal ⟨2, ![128, 1]⟩ .f32 :=
  shapeCast ⟨2, ![128, 1]⟩ (multiReduction .maximumf [1] ⟨1, ![128]⟩ v 0xFF800000#32 hr (.inl rfl) rfl) hc

/-- Which entries are the maximum of their row. -/
def maxMask : IVec ⟨2, ![128, n]⟩ 1 := cmpf .oeq v (broadcastTo ⟨2, ![128, n]⟩ (maxCol v hr hc) hb)

/-- How many entries are the maximum of their row, as a column. -/
def maxCount : FVec Ideal ⟨2, ![128, 1]⟩ .f32 :=
  shapeCast ⟨2, ![128, 1]⟩ (multiReduction .add [1] ⟨1, ![128]⟩ (sitofp .f32 (extui 32 (maxMask v hr hc hb) (by decide))) 0x00000000#32 hr
    (.inl rfl) rfl) hc

/-- The column of maxima holds the maximum of each row. -/
theorem maxCol_row (r : Fin 128) : maxCol v hr hc (ix2 r 0) = rowMax (row v r) :=
  (shapeCast_a_a1_apply _ _ r 0).trans (max_row v _ _ _ r)

/-- The mask marks the entries equal to the maximum of their row. -/
theorem maxMask_row (r : Fin 128) (j : Fin n) : maxMask v hr hc hb (ix2 r j) = 1#1 ↔ row v r j = rowMax (row v r) := by
  have : maxMask v hr hc hb (ix2 r j) = FloatOps.cmpf .oeq (v (ix2 r j)) (broadcastTo ⟨2, ![128, n]⟩ (maxCol v hr hc) hb (ix2 r j)) := rfl
  rw [this, broadcastTo_col, maxCol_row, cmpf_one]
  rfl

/-- The column of counts holds the number of entries equal to the maximum of their row. -/
theorem maxCount_row (r : Fin 128) :
    maxCount v hr hc hb (ix2 r 0) = rowCount fun j => row v r j = rowMax (row v r) := by
  refine (shapeCast_a_a1_apply _ _ r 0).trans ((sum_row _ _ _ _ _ r).trans ?_)
  unfold rowCount
  refine Finset.sum_congr rfl fun j _ => ?_
  refine (sitofp_extui (maxMask v hr hc hb (ix2 r j))).trans ?_
  by_cases h : row v r j = rowMax (row v r)
  · rw [if_pos ((maxMask_row v hr hc hb r j).2 h), if_pos h]
  · rw [if_neg fun h' => h ((maxMask_row v hr hc hb r j).1 h'), if_neg h]

/-- One round of a search: thresholds, entries still needed, entries left. -/
def roundV (s : (FVec Ideal ⟨2, ![128, 1]⟩ .f32 × FVec Ideal ⟨2, ![128, 1]⟩ .f32) × FVec Ideal ⟨2, ![128, n]⟩ .f32) :
    (FVec Ideal ⟨2, ![128, 1]⟩ .f32 × FVec Ideal ⟨2, ![128, 1]⟩ .f32) × FVec Ideal ⟨2, ![128, n]⟩ .f32 :=
  ((select (andi (cmpf .ogt s.1.2 (broadcast ⟨2, ![128, 1]⟩ (Scalar.ofBits .f32 0x00000000#32))) (cmpf .oge (maxCount s.2 hr hc hb) s.1.2))
      (maxCol s.2 hr hc) s.1.1,
    subf s.1.2 (maxCount s.2 hr hc hb)),
    select (maxMask s.2 hr hc hb) (broadcast ⟨2, ![128, n]⟩ (Scalar.ofBits .f32 0xC0000000#32)) s.2)

/-- What a row holds of a search's state. -/
def rowSt (s : (FVec Ideal ⟨2, ![128, 1]⟩ .f32 × FVec Ideal ⟨2, ![128, 1]⟩ .f32) × FVec Ideal ⟨2, ![128, n]⟩ .f32) (r : Fin 128) :
    EReal × EReal × (Fin n → EReal) :=
  (s.1.1 (ix2 r 0), s.1.2 (ix2 r 0), row s.2 r)

/-- A round acts on every row as the round of `Threshold`. -/
theorem roundV_row (s : (FVec Ideal ⟨2, ![128, 1]⟩ .f32 × FVec Ideal ⟨2, ![128, 1]⟩ .f32) × FVec Ideal ⟨2, ![128, n]⟩ .f32) (r : Fin 128) :
    rowSt (roundV hr hc hb s) r = step (rowSt s r) := by
  refine Prod.ext ?_ (Prod.ext ?_ ?_)
  · have h1 : (rowSt (roundV hr hc hb s) r).1
        = if (FloatOps.cmpf (F := Ideal) .ogt (s.1.2 (ix2 r 0)) (Ideal.ofBits .f32 0x00000000#32)
              &&& FloatOps.cmpf (F := Ideal) .oge (maxCount s.2 hr hc hb (ix2 r 0)) (s.1.2 (ix2 r 0))) = 1#1
          then maxCol s.2 hr hc (ix2 r 0) else s.1.1 (ix2 r 0) := rfl
    have hand : ∀ a b : BitVec 1, (a &&& b) = 1#1 ↔ a = 1#1 ∧ b = 1#1 := by decide
    rw [h1]
    simp only [hand, cmpf_one, Ideal.ofBits_zero_f32, maxCol_row, maxCount_row]
    rfl
  · show s.1.2 (ix2 r 0) - maxCount s.2 hr hc hb (ix2 r 0) = _
    rw [maxCount_row]
    rfl
  · funext j
    have h1 : (rowSt (roundV hr hc hb s) r).2.2 j
        = if maxMask s.2 hr hc hb (ix2 r j) = 1#1 then Ideal.ofBits .f32 0xC0000000#32 else s.2 (ix2 r j) := rfl
    rw [h1]
    simp only [maxMask_row, ofBits_neg_two]
    rfl

end Generic

/-- The candidate loop starts at threshold minus infinity and count 11. -/
theorem fastSt_init (r : Fin 128) : (k0_pay367 (F := Ideal) (ix2 r 0) : EReal) = ⊥ ∧ (k0_pay368 (F := Ideal) (ix2 r 0) : EReal) = ((11 : ℝ) : EReal) := by
  unfold k0_pay367 k0_pay368
  exact ⟨ofBits_bot, ofBits_eleven⟩

/-- A trip's threshold is the round's. -/
theorem fastSt_thr (a b : FVec Ideal S128x1 .f32) (v : FVec Ideal S128x512 .f32) :
    k0_pay372 (F := Ideal) a b v = (roundV reduces_S128x512_S128 shapeCasts_S128_S128x1 broadcasts_S128x1_S128x512 ((a, b), v)).1.1 := by
  unfold k0_pay372
  rfl

/-- A trip's remaining count is the round's. -/
theorem fastSt_need (a b : FVec Ideal S128x1 .f32) (v : FVec Ideal S128x512 .f32) :
    k0_pay373 (F := Ideal) b v = (roundV reduces_S128x512_S128 shapeCasts_S128_S128x1 broadcasts_S128x1_S128x512 ((a, b), v)).1.2 := by
  unfold k0_pay373
  rfl

/-- A trip's remaining candidates are the round's. -/
theorem fastSt_left (a b : FVec Ideal S128x1 .f32) (v : FVec Ideal S128x512 .f32) :
    k0_pay374 (F := Ideal) v = (roundV reduces_S128x512_S128 shapeCasts_S128_S128x1 broadcasts_S128x1_S128x512 ((a, b), v)).2 := by
  unfold k0_pay374
  exact shapeCast_self _ _

/-- The state after one more trip. -/
theorem fastSt_succ (y : FVec Ideal S128x512 .f32) (k : ℕ) :
    fastSt (F := Ideal) y (k + 1) = ((k0_pay372 (F := Ideal) (fastSt y k).1.1 (fastSt y k).1.2 (fastSt y k).2, k0_pay373 (F := Ideal) (fastSt y k).1.2 (fastSt y k).2), k0_pay374 (F := Ideal) (fastSt y k).2) := by
  rw [fastSt]

/-- One trip of the candidate loop is one round. -/
theorem fastSt_round (y : FVec Ideal S128x512 .f32) (k : ℕ) :
    fastSt (F := Ideal) y (k + 1) = roundV reduces_S128x512_S128 shapeCasts_S128_S128x1 broadcasts_S128x1_S128x512 (fastSt y k) := by
  rw [fastSt_succ, fastSt_thr, fastSt_need (fastSt y k).1.1, fastSt_left (fastSt y k).1.1 (fastSt y k).1.2]

/-- A search's state after `k` rounds, row by row. -/
theorem fastSt_row (y : FVec Ideal S128x512 .f32) (r : Fin 128) (k : ℕ) :
    rowSt (fastSt y k) r = (step)^[k] (⊥, ((11 : ℝ) : EReal), row y r) := by
  induction k with
  | zero =>
    rw [fastSt]
    exact Prod.ext (fastSt_init r).1 (Prod.ext (fastSt_init r).2 rfl)
  | succ k ih => rw [Function.iterate_succ_apply', ← ih, fastSt_round, roundV_row]

/-- The loop over the whole tile starts at threshold minus infinity and count 11. -/
theorem slowSt_init (r : Fin 128) : (k0_pay379 (F := Ideal) (ix2 r 0) : EReal) = ⊥ ∧ (k0_pay380 (F := Ideal) (ix2 r 0) : EReal) = ((11 : ℝ) : EReal) := by
  unfold k0_pay379 k0_pay380
  exact ⟨ofBits_bot, ofBits_eleven⟩

/-- A trip's threshold is the round's. -/
theorem slowSt_thr (a b : FVec Ideal S128x1 .f32) (v : FVec Ideal S128x8000 .f32) :
    k0_pay384 (F := Ideal) a b v = (roundV reduces_S128x8000_S128 shapeCasts_S128_S128x1 broadcasts_S128x1_S128x8000 ((a, b), v)).1.1 := by
  unfold k0_pay384
  rfl

/-- A trip's remaining count is the round's. -/
theorem slowSt_need (a b : FVec Ideal S128x1 .f32) (v : FVec Ideal S128x8000 .f32) :
    k0_pay385 (F := Ideal) b v = (roundV reduces_S128x8000_S128 shapeCasts_S128_S128x1 broadcasts_S128x1_S128x8000 ((a, b), v)).1.2 := by
  unfold k0_pay385
  rfl

/-- A trip's remaining entries are the round's. -/
theorem slowSt_left (a b : FVec Ideal S128x1 .f32) (v : FVec Ideal S128x8000 .f32) :
    k0_pay386 (F := Ideal) v = (roundV reduces_S128x8000_S128 shapeCasts_S128_S128x1 broadcasts_S128x1_S128x8000 ((a, b), v)).2 := by
  unfold k0_pay386
  exact shapeCast_self _ _

/-- The state after one more trip. -/
theorem slowSt_succ (y : FVec Ideal S128x8000 .f32) (k : ℕ) :
    slowSt (F := Ideal) y (k + 1) = ((k0_pay384 (F := Ideal) (slowSt y k).1.1 (slowSt y k).1.2 (slowSt y k).2, k0_pay385 (F := Ideal) (slowSt y k).1.2 (slowSt y k).2), k0_pay386 (F := Ideal) (slowSt y k).2) := by
  rw [slowSt]

/-- One trip of the loop over the whole tile is one round. -/
theorem slowSt_round (y : FVec Ideal S128x8000 .f32) (k : ℕ) :
    slowSt (F := Ideal) y (k + 1) = roundV reduces_S128x8000_S128 shapeCasts_S128_S128x1 broadcasts_S128x1_S128x8000 (slowSt y k) := by
  rw [slowSt_succ, slowSt_thr, slowSt_need (slowSt y k).1.1, slowSt_left (slowSt y k).1.1 (slowSt y k).1.2]

/-- A search's state after `k` rounds, row by row. -/
theorem slowSt_row (y : FVec Ideal S128x8000 .f32) (r : Fin 128) (k : ℕ) :
    rowSt (slowSt y k) r = (step)^[k] (⊥, ((11 : ℝ) : EReal), row y r) := by
  induction k with
  | zero =>
    rw [slowSt]
    exact Prod.ext (slowSt_init r).1 (Prod.ext (slowSt_init r).2 rfl)
  | succ k ih => rw [Function.iterate_succ_apply', ← ih, slowSt_round, roundV_row]

/-- The slow search finds the threshold of every row whose entries exceed `-2`. -/
theorem slowThr_isThr (y : FVec Ideal S128x8000 .f32) (r : Fin 128) (hy : ∀ j, ((-2 : ℝ) : EReal) < row y r j) :
    IsThr (row y r) ((slowSt y 11).1.1 (ix2 r 0)) := by
  have := isThr_step hy (by simp) ⊥
  rw [← slowSt_row y r 11] at this
  exact this

/-- The fast search finds the threshold of every row of candidates that exceed `-2`. -/
theorem fastThr_isThr (y : FVec Ideal S128x512 .f32) (r : Fin 128) (hy : ∀ j, ((-2 : ℝ) : EReal) < row y r j) :
    IsThr (row y r) ((fastSt y 11).1.1 (ix2 r 0)) := by
  have := isThr_step hy (by simp) ⊥
  rw [← fastSt_row y r 11] at this
  exact this

end Cert.Proof.Rows

end
-- ==== Proof.Count.lean ====
/-
  The candidates of a row count no more entries at or above a number than the row does, and all are at least `-1`.
-/
module

public import proofs.«01_k».proof.Proof.Rows

@[expose] public section

noncomputable section

namespace Cert.Proof.Count

open Cert.KernelIdeal Cert.KernelIdeal.Gen Cert.Proof.KernelIdealBody Cert.Proof.Candidates Cert.Proof.Threshold
  Cert.Proof.Readings Cert.Proof.Rows
open Idealize.ShloMosaic Idealize.ShloMosaic.ValueIdx

/-- One if `t` is at most `a`, else nothing. -/
def one (t a : EReal) : ℕ := if t ≤ a then 1 else 0

/-- Of two numbers and of their maximum and minimum, equally many are at least `t`. -/
theorem one_max_min (t a x : EReal) : one t (max a x) + one t (min a x) = one t a + one t x := by
  unfold one
  rcases le_total a x with h | h
  · rw [max_eq_right h, min_eq_left h, add_comm]
  · rw [max_eq_left h, min_eq_right h]

/-- How many of the four maxima of a row and lane are at least `t`. -/
def cntQ (t : EReal) (p : Quad Ideal) (r l : Fin 128) : ℕ :=
  one t (p.1 (ix2 r l)) + one t (p.2.1 (ix2 r l)) + one t (p.2.2.1 (ix2 r l)) + one t (p.2.2.2 (ix2 r l))

/-- An insertion adds at most the entry inserted to the count. -/
theorem cntQ_insV (t : EReal) (p : Quad Ideal) (x : FVec Ideal S128x128 .f32) (r l : Fin 128) :
    cntQ t (insV p x) r l ≤ cntQ t p r l + one t (x (ix2 r l)) := by
  have key : ∀ a b c d x : EReal, one t (max a x) + one t (max b (min a x)) + one t (max c (min b (min a x)))
      + one t (max d (min c (min b (min a x)))) ≤ one t a + one t b + one t c + one t d + one t x := fun a b c d x => by
    have h1 := one_max_min t a x
    have h2 := one_max_min t b (min a x)
    have h3 := one_max_min t c (min b (min a x))
    have h4 := one_max_min t d (min c (min b (min a x)))
    omega
  exact key _ _ _ _ _

/-- Entry `i` of a row counted against `t`, nothing past the row's end. -/
def cntE (t : EReal) {n : ℕ} (x : Fin n → EReal) (i : ℕ) : ℕ := if h : i < n then one t (x ⟨i, h⟩) else 0

/-- The entries of a row at or above `t`, counted one by one. -/
theorem card_eq_sum (t : EReal) {n : ℕ} (x : Fin n → EReal) :
    (Finset.univ.filter fun i => t ≤ x i).card = ∑ i ∈ Finset.range n, cntE t x i := by
  rw [Finset.sum_range, Finset.card_filter]
  refine Finset.sum_congr rfl fun i _ => ?_
  simp only [cntE, i.isLt, dif_pos, one]

/-- A sum over `n` blocks of 128 is the sum over the blocks of the sums within them. -/
theorem sum_blocks (f : ℕ → ℕ) (n : ℕ) :
    ∑ i ∈ Finset.range (n * 128), f i = ∑ q ∈ Finset.range n, ∑ l ∈ Finset.range 128, f (q * 128 + l) := by
  induction n with
  | zero => simp
  | succ n ih => rw [Nat.succ_mul, Finset.sum_range_add, ih, Finset.sum_range_succ (fun q => ∑ l ∈ Finset.range 128, f (q * 128 + l)) n]

/-- A sum over 8000 splits into 62 full blocks and a tail of 64. -/
theorem sum_8000 (f : ℕ → ℕ) : ∑ i ∈ Finset.range 8000, f i
    = ∑ q ∈ Finset.range 62, ∑ l ∈ Finset.range 128, f (q * 128 + l) + ∑ l ∈ Finset.range 64, f (7936 + l) := by
  rw [show (8000 : ℕ) = 62 * 128 + 64 from rfl, Finset.sum_range_add, sum_blocks]

/-- The tail, summed over the lanes of a block that carry it. -/
theorem sum_tail (f : ℕ → ℕ) : ∑ l : Fin 128, (if 64 ≤ l.val then f (7872 + l.val) else 0) = ∑ l ∈ Finset.range 64, f (7936 + l) := by
  rw [← Finset.sum_range (fun l => if 64 ≤ l then f (7872 + l) else 0), show (128 : ℕ) = 64 + 64 from rfl, Finset.sum_range_add,
    Finset.sum_eq_zero (fun l hl => if_neg (by have := Finset.mem_range.1 hl; omega)), zero_add]
  refine Finset.sum_congr rfl fun l _ => ?_
  rw [if_pos (by omega), ← add_assoc]

/-- Two finite sums change places. -/
theorem sum_swap (m n : ℕ) (f : ℕ → ℕ) :
    ∑ l : Fin n, ∑ q ∈ Finset.range m, f (q * n + l.val) = ∑ q ∈ Finset.range m, ∑ l ∈ Finset.range n, f (q * n + l) := by
  rw [Finset.sum_comm]
  exact Finset.sum_congr rfl fun q _ => (Finset.sum_range fun l => f (q * n + l)).symm

/-- A sum over 8000, lane by lane. -/
theorem sum_lanes (f : ℕ → ℕ) :
    ∑ l : Fin 128, (∑ q ∈ Finset.range 62, f (q * 128 + l.val) + if 64 ≤ l.val then f (7872 + l.val) else 0)
      = ∑ i ∈ Finset.range 8000, f i := by
  rw [Finset.sum_add_distrib, sum_8000, sum_tail, sum_swap 62 128]

/-- The test of a lane number against 64 is the comparison. -/
theorem sge_64 : ∀ l : Fin 128, IntOp.cmpi .sge (BitVec.ofNat 32 l.val) 64#32 = 1#1 ↔ 64 ≤ l.val := by decide

/-- None of the initial maxima is at least a number greater than -1. -/
theorem cntQ_init (t : EReal) (ht : ((-1 : ℝ) : EReal) < t) (r l : Fin 128) :
    cntQ t (k0_pay3 (F := Ideal), k0_pay3 (F := Ideal), k0_pay3 (F := Ideal), k0_pay3 (F := Ideal)) r l = 0 := by
  have : one t (k0_pay3 (F := Ideal) (ix2 r l)) = 0 := by
    have : (k0_pay3 (F := Ideal) (ix2 r l) : EReal) = ((-1 : ℝ) : EReal) := by
      unfold k0_pay3; exact ofBits_neg_one
    rw [this]
    exact if_neg (not_le.2 ht)
  simp only [cntQ, this]

/-- One block of 128 columns, read at an entry. -/
theorem blkV_apply (v : FVec Ideal S128x8000 .f32) (q : ℕ) (h : q + 1 ≤ 62) (r l : Fin 128) :
    blkV v q h (ix2 r l) = row v r ⟨q * 128 + l.val, by have := l.isLt; omega⟩ := by
  unfold blkV extractStridedSlice row
  exact congrArg v (by
    funext a
    fin_cases a
    · exact Fin.ext (Nat.zero_add _)
    · rfl)

/-- The blocks inserted count at most their entries. -/
theorem cntQ_runV (t : EReal) (v : FVec Ideal S128x8000 .f32) (p : Quad Ideal) (r l : Fin 128) : (n : ℕ) → (h : 0 + n ≤ 62) →
    cntQ t (runV v p 0 n h) r l ≤ cntQ t p r l + ∑ q ∈ Finset.range n, cntE t (row v r) (q * 128 + l.val)
  | 0, _ => by simp [runV]
  | n + 1, h => by
    have ih := cntQ_runV t v p r l n (by omega)
    have h1 := cntQ_insV t (runV v p 0 n (by omega)) (blkV v (0 + n) (by omega)) r l
    rw [blkV_apply] at h1
    have h2 : cntE t (row v r) (n * 128 + l.val) = one t (row v r ⟨(0 + n) * 128 + l.val, by have := l.isLt; omega⟩) := by
      have : n * 128 + l.val < 8000 := by have := l.isLt; omega
      simp only [cntE, this, dif_pos, Nat.zero_add]
    rw [Finset.sum_range_succ, h2]
    show cntQ t (insV (runV v p 0 n _) (blkV v (0 + n) _)) r l ≤ _
    omega

/-- The last block counts at most the row's last 64 entries. -/
theorem one_tailV (t : EReal) (ht : ((-1 : ℝ) : EReal) < t) (v : FVec Ideal S128x8000 .f32) (r l : Fin 128) :
    one t (tailV v (ix2 r l)) ≤ if 64 ≤ l.val then cntE t (row v r) (7872 + l.val) else 0 := by
  have h1 : tailV v (ix2 r l) = if IntOp.cmpi .sge (BitVec.ofNat 32 l.val) 64#32 = 1#1
      then row v r ⟨7872 + l.val, by have := l.isLt; omega⟩ else Ideal.ofBits .f32 0xBF800000#32 := by
    have h3 : BitVec.ofNat 32 (0 * 128 + l.val) = BitVec.ofNat 32 l.val := by rw [Nat.zero_mul, Nat.zero_add]
    rw [← h3]
    unfold tailV k0_pay3 select
    refine if_congr Iff.rfl ?_ rfl
    unfold extractStridedSlice row
    exact congrArg v (by
      funext a
      fin_cases a
      · exact Fin.ext (Nat.zero_add _)
      · rfl)
  have h2 := sge_64 l
  rw [h1]
  by_cases h : 64 ≤ l.val
  · rw [if_pos (h2.2 h), if_pos h]
    have : 7872 + l.val < 8000 := by have := l.isLt; omega
    simp only [cntE, this, dif_pos, le_refl]
  · rw [if_neg fun h' => h (h2.1 h'), if_neg h, ofBits_neg_one]
    unfold one
    rw [if_neg (not_le.2 ht)]

/-- Above `-1` the four maxima of a lane count at most the lane's entries. -/
theorem cntQ_quadV (t : EReal) (ht : ((-1 : ℝ) : EReal) < t) (v : FVec Ideal S128x8000 .f32) (r l : Fin 128) :
    cntQ t (quadV v) r l
      ≤ ∑ q ∈ Finset.range 62, cntE t (row v r) (q * 128 + l.val) + if 64 ≤ l.val then cntE t (row v r) (7872 + l.val) else 0 := by
  have h1 := cntQ_insV t (runV v (k0_pay3, k0_pay3, k0_pay3, k0_pay3) 0 62 (by decide)) (tailV v) r l
  have h2 := cntQ_runV t v (k0_pay3, k0_pay3, k0_pay3, k0_pay3) r l 62 (by decide)
  have h3 := one_tailV t ht v r l
  have h0 := cntQ_init t ht r l
  refine le_trans h1 (Nat.add_le_add (le_trans h2 (le_of_eq ?_)) h3)
  exact (congrArg (fun z => z + _) h0).trans (Nat.zero_add _)

/-- Above `-1` the four maxima of all lanes count at most the row. -/
theorem sum_cntQ (t : EReal) (ht : ((-1 : ℝ) : EReal) < t) (v : FVec Ideal S128x8000 .f32) (r : Fin 128) :
    ∑ l : Fin 128, cntQ t (quadV v) r l ≤ (Finset.univ.filter fun i => t ≤ row v r i).card := by
  rw [card_eq_sum, ← sum_lanes]
  exact Finset.sum_le_sum fun l _ => cntQ_quadV t ht v r l

/-- Candidate `128 j + l` of a row is maximum `j` of lane `l`. -/
theorem cand_apply (x : Vec Ideal S32x4x8000 .f32) (r l : Fin 128) (j : Fin 4) :
    cand x (ix2 r ⟨j.val * 128 + l.val, by have := l.isLt; have := j.isLt; omega⟩)
      = (match j with
        | 0 => (quadV (k0_pay2 x)).1 | 1 => (quadV (k0_pay2 x)).2.1 | 2 => (quadV (k0_pay2 x)).2.2.1 | 3 => (quadV (k0_pay2 x)).2.2.2) (ix2 r l) := by
  rw [cand_eq]
  exact concatenate_ofFn_apply (t := S128x512) (s₁ := S128x128) 1 (N := 4)
    (fun j => match j with
        | 0 => (quadV (k0_pay2 x)).1 | 1 => (quadV (k0_pay2 x)).2.1 | 2 => (quadV (k0_pay2 x)).2.2.1 | 3 => (quadV (k0_pay2 x)).2.2.2)
    concatenates_S128x128_S128x128_S128x128_S128x128_S128x512_d1 rfl 128 rfl _ j
    (by show (j.val * 128 + l.val) / 128 = j.val; have := l.isLt; omega) (ix2 r l)
    (by show l.val = (j.val * 128 + l.val) % 128; have := l.isLt; omega)
    (fun b hb => by
      fin_cases b
      · rfl
      · exact absurd rfl hb)

end Cert.Proof.Count

end
-- ==== Proof.Thr.lean ====
/-
  The threshold the kernel uses is, in every row of a tile whose entries are at least `-1`, the threshold of the row.
-/
module

public import proofs.«01_k».proof.Proof.Count
public import Idealize.ShloMosaic.Lib.ValueLayout

@[expose] public section

noncomputable section

namespace Cert.Proof.Thr

open Cert.KernelIdeal Cert.KernelIdeal.Gen Cert.Proof.KernelIdealBody Cert.Proof.Candidates Cert.Proof.Threshold
  Cert.Proof.Readings Cert.Proof.Rows Cert.Proof.Count
open Idealize.ShloMosaic Idealize.ShloMosaic.ValueIdx

/-- A sum over 512, as the four blocks of 128 of each lane. -/
theorem sum_512 (f : ℕ → ℕ) : ∑ i ∈ Finset.range 512, f i
    = ∑ l : Fin 128, (f (0 * 128 + l.val) + f (1 * 128 + l.val) + f (2 * 128 + l.val) + f (3 * 128 + l.val)) := by
  rw [show (512 : ℕ) = 4 * 128 from rfl, sum_blocks, ← sum_swap 4 128]
  refine Finset.sum_congr rfl fun l _ => ?_
  simp only [Finset.sum_range_succ, Finset.range_zero, Finset.sum_empty, zero_add]

/-- Counting at a position within the range. -/
theorem cntE_of_lt (t : EReal) {n : ℕ} (x : Fin n → EReal) (i : ℕ) (h : i < n) : cntE t x i = one t (x ⟨i, h⟩) := dif_pos h

/-- The candidates of a row at or above `t`, counted lane by lane. -/
theorem card_cand (t : EReal) (x : Vec Ideal S32x4x8000 .f32) (r : Fin 128) :
    (Finset.univ.filter fun i => t ≤ row (cand x) r i).card = ∑ l : Fin 128, cntQ t (quadV (k0_pay2 x)) r l := by
  rw [card_eq_sum, sum_512]
  refine Finset.sum_congr rfl fun l _ => ?_
  have hl := l.isLt
  rw [cntE_of_lt t _ (0 * 128 + l.val) (by omega), cntE_of_lt t _ (1 * 128 + l.val) (by omega), cntE_of_lt t _ (2 * 128 + l.val) (by omega),
    cntE_of_lt t _ (3 * 128 + l.val) (by omega)]
  have h0 : row (cand x) r ⟨0 * 128 + l.val, by omega⟩ = (quadV (k0_pay2 x)).1 (ix2 r l) := cand_apply x r l 0
  have h1 : row (cand x) r ⟨1 * 128 + l.val, by omega⟩ = (quadV (k0_pay2 x)).2.1 (ix2 r l) := cand_apply x r l 1
  have h2 : row (cand x) r ⟨2 * 128 + l.val, by omega⟩ = (quadV (k0_pay2 x)).2.2.1 (ix2 r l) := cand_apply x r l 2
  have h3 : row (cand x) r ⟨3 * 128 + l.val, by omega⟩ = (quadV (k0_pay2 x)).2.2.2 (ix2 r l) := cand_apply x r l 3
  rw [h0, h1, h2, h3]
  rfl

/-- All four maxima of a row and lane are at least `-1`. -/
def Low (p : Quad Ideal) (r l : Fin 128) : Prop :=
  ((-1 : ℝ) : EReal) ≤ p.1 (ix2 r l) ∧ ((-1 : ℝ) : EReal) ≤ p.2.1 (ix2 r l) ∧ ((-1 : ℝ) : EReal) ≤ p.2.2.1 (ix2 r l)
    ∧ ((-1 : ℝ) : EReal) ≤ p.2.2.2 (ix2 r l)

/-- An insertion keeps the maxima at least -1. -/
theorem Low.insV {p : Quad Ideal} {r l : Fin 128} (h : Low p r l) (x : FVec Ideal S128x128 .f32) : Low (insV p x) r l :=
  ⟨le_max_of_le_left h.1, le_max_of_le_left h.2.1, le_max_of_le_left h.2.2.1, le_max_of_le_left h.2.2.2⟩

/-- So do the insertions of all full blocks. -/
theorem Low.runV {p : Quad Ideal} {r l : Fin 128} (h : Low p r l) (v : FVec Ideal S128x8000 .f32) : (n : ℕ) → (hn : 0 + n ≤ 62) →
    Low (runV v p 0 n hn) r l
  | 0, _ => h
  | n + 1, _ => (Low.runV h v n (by omega)).insV _

/-- The four maxima are at least -1. -/
theorem low_quadV (v : FVec Ideal S128x8000 .f32) (r l : Fin 128) : Low (quadV v) r l := by
  have h : ((-1 : ℝ) : EReal) ≤ k0_pay3 (F := Ideal) (ix2 r l) := by
    have : (k0_pay3 (F := Ideal) (ix2 r l) : EReal) = ((-1 : ℝ) : EReal) := by
      unfold k0_pay3; exact ofBits_neg_one
    rw [this]
  have h0 : Low (k0_pay3 (F := Ideal), k0_pay3 (F := Ideal), k0_pay3 (F := Ideal), k0_pay3 (F := Ideal)) r l := ⟨h, h, h, h⟩
  exact (h0.runV v 62 (by decide)).insV _

/-- Every candidate exceeds `-2`. -/
theorem lt_cand (x : Vec Ideal S32x4x8000 .f32) (r : Fin 128) (c : Fin 512) : ((-2 : ℝ) : EReal) < row (cand x) r c := by
  have hc := c.isLt
  have h21 : ((-2 : ℝ) : EReal) < ((-1 : ℝ) : EReal) := by exact_mod_cast (by norm_num : (-2 : ℝ) < -1)
  refine lt_of_lt_of_le h21 ?_
  have h1 := cand_apply x r ⟨c.val % 128, by omega⟩ ⟨c.val / 128, by omega⟩
  have h2 : (⟨(⟨c.val / 128, by omega⟩ : Fin 4).val * 128 + (⟨c.val % 128, by omega⟩ : Fin 128).val, by
      show c.val / 128 * 128 + c.val % 128 < 512; omega⟩ : Fin 512) = c := Fin.ext (Nat.div_add_mod' c.val 128)
  rw [h2] at h1
  have h3 := low_quadV (k0_pay2 x) r ⟨c.val % 128, by omega⟩
  unfold row
  rw [h1]
  generalize (⟨c.val / 128, by omega⟩ : Fin 4) = j
  fin_cases j
  · exact h3.1
  · exact h3.2.1
  · exact h3.2.2.1
  · exact h3.2.2.2

/-- At or above the fast search's threshold a row has eleven entries. -/
theorem fast_ge (x : Vec Ideal S32x4x8000 .f32) (r : Fin 128) (hx : ∀ j, ((-1 : ℝ) : EReal) ≤ row (k0_pay2 x) r j) :
    11 ≤ (Finset.univ.filter fun j => fastThr x (ix2 r 0) ≤ row (k0_pay2 x) r j).card := by
  have h := (fastThr_isThr (cand x) r (lt_cand x r)).2
  have ht : fastThr x (ix2 r 0) = (fastSt (cand x) 11).1.1 (ix2 r 0) := rfl
  rw [← ht] at h
  by_cases hlt : ((-1 : ℝ) : EReal) < fastThr x (ix2 r 0)
  · rw [card_cand] at h
    exact le_trans h (sum_cntQ _ hlt _ r)
  · rw [Finset.filter_true_of_mem fun j _ => le_trans (not_lt.1 hlt) (hx j)]
    simp

/-- How many entries of a row lie above a column's. -/
theorem pay375_row (v : FVec Ideal S128x8000 .f32) (t : FVec Ideal S128x1 .f32) (r : Fin 128) :
    ∑ j : Fin 8000, (k0_pay375 (F := Ideal) v t (ix2 r j) : EReal) = (((Finset.univ.filter fun j => t (ix2 r 0) < row v r j).card : ℝ) : EReal) := by
  rw [← rowCount_eq]
  unfold rowCount
  refine Finset.sum_congr rfl fun j _ => ?_
  have h1 : (k0_pay375 (F := Ideal) v t (ix2 r j) : EReal)
      = FloatOps.sitofp (F := Ideal) .f32 ((FloatOps.cmpf (F := Ideal) .ogt (v (ix2 r j)) (broadcastTo S128x8000 t broadcasts_S128x1_S128x8000 (ix2 r j))).setWidth 32) := rfl
  rw [h1, sitofp_extui, broadcastTo_col]
  by_cases h : t (ix2 r 0) < row v r j
  · exact (if_pos ((cmpf_one .ogt (v (ix2 r j)) (t (ix2 r 0))).2 h)).trans (if_pos h).symm
  · exact (if_neg fun h' => h ((cmpf_one .ogt (v (ix2 r j)) (t (ix2 r 0))).1 h')).trans (if_neg h).symm

/-- An entry of a column is at most the maximum over the column. -/
theorem le_colMax (w : FVec Ideal S128x1 .f32) (r : Fin 128) (j : S1.Idx) : w (ix2 r 0)
    ≤ multiReduction .maximumf [1, 2] S1 (shapeCast S1x128x1 w shapeCasts_S128x1_S1x128x1) 0xFF800000#32 reduces_S1x128x1_S1 (.inl rfl) rfl j := by
  refine le_trans ?_ (le_of_eq (multiReduction_maximumf_eq_fold (shapeCast S1x128x1 w shapeCasts_S128x1_S1x128x1) _ reduces_S1x128x1_S1 _ _ j).symm)
  refine (Finset.le_fold_max (b := FloatOps.ofBits (F := Ideal) .f32 0xFF800000#32) _).2 (Or.inr ⟨ix3 0 r 0, ?_, ?_⟩)
  · refine Finset.mem_filter.2 ⟨Finset.mem_univ _, ?_⟩
    rw [eq_ix1 j, eq_ix1 (reduces_S1x128x1_S1.drop (ix3 0 r 0))]
    exact congrArg ix1 (Subsingleton.elim (α := Fin 1) _ _)
  · exact le_of_eq (shapeCast_ab_1ab_apply w shapeCasts_S128x1_S1x128x1 0 r 0).symm

/-- The row sums as a column. -/
def sumCol (v : FVec Ideal S128x8000 .f32) : FVec Ideal S128x1 .f32 :=
  shapeCast S128x1 (multiReduction .add [1] S128 v 0x00000000#32 reduces_S128x8000_S128 (.inl rfl) rfl) shapeCasts_S128_S128x1

/-- The column of counts, row by row. -/
theorem sumCol_row (v : FVec Ideal S128x8000 .f32) (r : Fin 128) : sumCol v (ix2 r 0) = ∑ j : Fin 8000, (v (ix2 r j) : EReal) :=
  (shapeCast_a_a1_apply _ shapeCasts_S128_S128x1 r 0).trans (sum_row v _ reduces_S128x8000_S128 _ _ r)

/-- The number compared with 10 is the largest of the counts. -/
theorem pay376_eq (v : FVec Ideal S128x8000 .f32) : ∃ j : S1.Idx, k0_pay376 (F := Ideal) v
    = multiReduction .maximumf [1, 2] S1 (shapeCast S1x128x1 (sumCol v) shapeCasts_S128x1_S1x128x1) 0xFF800000#32 reduces_S1x128x1_S1 (.inl rfl) rfl j := by
  unfold k0_pay376 sumCol
  exact ⟨_, rfl⟩

/-- The row sums are at most the number the check reads. -/
theorem pay376_ge (v : FVec Ideal S128x8000 .f32) (r : Fin 128) : ∑ j : Fin 8000, (v (ix2 r j) : EReal) ≤ k0_pay376 (F := Ideal) v := by
  obtain ⟨j, hj⟩ := pay376_eq v
  rw [hj, ← sumCol_row]
  exact le_colMax _ r j

/-- The comparison with 10 of a count read as an extended real. -/
theorem le_ten (c : ℕ) (h : ((c : ℝ) : EReal) ≤ ((10 : ℝ) : EReal)) : c ≤ 10 := by
  have : (c : ℝ) ≤ 10 := EReal.coe_le_coe_iff.1 h
  exact_mod_cast this

/-- The comparison `ole` is the order. -/
theorem scalar_ole (a b : Ideal .f32) : Scalar.cmpf (F := Ideal) .ole a b = 1#1 ↔ a ≤ b := cmpf_one .ole a b

/-- The word for 10. -/
theorem scalar_ten : (Scalar.ofBits (F := Ideal) .f32 0x41200000#32 : EReal) = ((10 : ℝ) : EReal) := ofBits_ten

/-- The condition of the slow branch is the negation of the test. -/
theorem scalar_cond (b : BitVec 1) : Scalar.cmpi .ne (Scalar.extui (Scalar.xori b 1#1) : BitVec 32) 0#32 = 1#1 ↔ b ≠ 1#1 := by
  revert b; decide

/-- The kernel's threshold is the threshold of every row. -/
theorem thr_isThr (x : Vec Ideal S32x4x8000 .f32) (r : Fin 128) (hx : ∀ j, ((-1 : ℝ) : EReal) ≤ row (k0_pay2 x) r j) :
    IsThr (row (k0_pay2 x) r) (thr x (ix2 r 0)) := by
  have h21 : ((-2 : ℝ) : EReal) < ((-1 : ℝ) : EReal) := by exact_mod_cast (by norm_num : (-2 : ℝ) < -1)
  unfold thr
  by_cases hc : slowCond x = 1#1
  · rw [if_pos hc]
    have h1 : k0_pay387 (F := Ideal) (slowThr x) = slowThr x := by unfold k0_pay387; exact shapeCast_self _ _
    have h2 : k0_pay378 (F := Ideal) (k0_pay2 x) = k0_pay2 x := by unfold k0_pay378; exact shapeCast_self _ _
    rw [h1]
    unfold slowThr
    rw [h2]
    exact slowThr_isThr (k0_pay2 x) r fun j => lt_of_lt_of_le h21 (hx j)
  · rw [if_neg hc]
    have h1 : k0_pay377 (F := Ideal) (fastThr x) = fastThr x := by unfold k0_pay377; exact shapeCast_self _ _
    rw [h1]
    refine ⟨?_, fast_ge x r hx⟩
    unfold slowCond at hc
    rw [scalar_cond, not_not] at hc
    rw [scalar_ole, scalar_ten] at hc
    have h2 := hc
    have h3 := le_trans (pay376_ge (k0_pay375 (k0_pay2 x) (fastThr x)) r) h2
    rw [pay375_row] at h3
    exact le_ten _ h3

end Cert.Proof.Thr

end
-- ==== Proof.KernelValue.lean ====
/-
  The kernel's result array is the reference's result, as functions of the arguments.
-/
module

public import proofs.«01_k».proof.Proof.BlockValue
public import proofs.«01_k».proof.Proof.RefValue
public import proofs.«01_k».proof.Proof.RefThr
public import proofs.«01_k».proof.Proof.Thr
public import Idealize.ShloMosaic.Lib.Pipeline.ValueKit

@[expose] public section

set_option maxRecDepth 16384

noncomputable section

namespace Cert.Proof.KernelValue

open Cert.KernelIdeal Cert.KernelIdeal.Gen
open Idealize.ShloMosaic hiding ix1 ix2 ix3
open Idealize.ShloMosaic.TcCoe Idealize.ShloMosaic.ValueIdx Idealize.ShloMosaic.Tactic Idealize.SL.Sem
open Idealize.ShloMosaic.Pipeline (Dat)
open Cert.Proof.Readings Cert.Proof.Formula Cert.Proof.KernelIdealBody

/-- One entry of a grid step's block is the entry of the reference's result, where the blocks read the arguments: rows
    `a` of the arrays as rows `p` of the blocks, the weights transposed, the vectors as rows. -/
theorem block_eq (a0 : FVec Ideal S2048x4x1024 .f32) (a1 : FVec Ideal S2048x4x8000 .f32) (a2 : FVec Ideal S1024x1024 .f32)
    (a3 a4 a5 : FVec Ideal S1024 .f32) (a6 : FVec Ideal S8000x1024 .f32)
    (x0 : Vec Ideal S32x4x8000 .f32) (x1 : Vec Ideal S32x4x1024 .f32) (x2 : Vec Ideal S1024x1024 .f32)
    (x3 x4 x5 : Vec Ideal S1x1024 .f32) (x6 : Vec Ideal S8000x1024 .bf16) (a : Fin 2048) (p : Fin 32) (q : Fin 4)
    (h0 : ∀ k, (x0 (ix3 p q k) : EReal) = a1 (ix3 a q k)) (h1 : ∀ k, (x1 (ix3 p q k) : EReal) = a0 (ix3 a q k))
    (h2 : ∀ k j, (x2 (ix2 k j) : EReal) = a2 (ix2 j k)) (h3 : ∀ j, (x3 (ix2 0 j) : EReal) = a3 (ix1 j))
    (h4 : ∀ j, (x4 (ix2 0 j) : EReal) = a4 (ix1 j)) (h5 : ∀ j, (x5 (ix2 0 j) : EReal) = a5 (ix1 j))
    (h6 : ∀ k j, (x6 (ix2 k j) : EReal) = a6 (ix2 k j))
    (hpre : ∀ i, ((-1 : ℝ) : EReal) ≤ a1 i) (c : Fin 1024) :
    out0_7 (F := Ideal) x0 x1 x2 x3 x4 x5 x6 (ix3 p q c)
      = Cert.ReferenceIdeal.Read.val_main_v35 (F := Ideal) a0 a1 a2 a3 a4 a5 a6 (ix3 a q c) := by
  obtain ⟨r, hr⟩ : ∃ r : Fin 128, r.val = p.val * 4 + q.val := ⟨⟨p.val * 4 + q.val, by have := p.isLt; have := q.isLt; omega⟩, rfl⟩
  obtain ⟨t, ht⟩ : ∃ t : Fin 8000, t.val = 10 := ⟨⟨10, by omega⟩, rfl⟩
  obtain ⟨e, he, hee⟩ := ofBits_eps
  have hrow : Rows.row (k0_pay2 (F := Ideal) x0) r = fun k : Fin 8000 => (a1 (ix3 a q k) : EReal) :=
    funext fun k => (BlockValue.rows_apply (n := 8000) x0 _ p q r hr k).trans (h0 k)
  have hthr : (thr (F := Ideal) x0 (ix2 r 0) : EReal) = Cert.ReferenceIdeal.Read.val_main_v26 (F := Ideal) a1 (ix3 a q t) := by
    have k1 := Thr.thr_isThr x0 r (fun j => by rw [hrow]; exact hpre _)
    rw [hrow] at k1
    exact k1.unique (RefThr.ref_isThr a1 a q t ht)
  rw [BlockValue.out0_7_apply x0 x1 x2 x3 x4 x5 x6 p q r hr c, RefValue.ref_apply a0 a1 a2 a3 a4 a5 a6 a q c t ht,
    hthr, h4, h5, ofBits_1024, hee, outQ_eq _ (by norm_num) he]
  have l : (fun j : Fin 1024 => (∑ k : Fin 1024, (x1 (ix3 p q k) : EReal) * x2 (ix2 k j)) + x3 (ix2 0 j)) = RefValue.lin a0 a2 a3 a q := by
    funext j
    unfold RefValue.lin
    rw [h3]
    refine congrArg₂ (· + ·) (Finset.sum_congr rfl fun k _ => ?_) rfl
    rw [h1, h2]
  have s0 : (fun k : Fin 8000 => (x0 (ix3 p q k) : EReal)) = fun k : Fin 8000 => (a1 (ix3 a q k) : EReal) := funext h0
  have s6 : (fun k : Fin 8000 => (x6 (ix2 k c) : EReal)) = fun k : Fin 8000 => (a6 (ix2 k c) : EReal) := funext fun k => h6 k c
  rw [l, s0, s6]

variable (m : (ℓ : Loc nD τ sig) → Buf (Elt Ideal) ℓ) (ρ : Dev nD → PrngReg)

/-! ## The arrays the pipeline reads -/

/-- The embedding table, rounded to bf16. -/
theorem V_main_v0 (c : Dev nD) :
    V m c main_v0 = (truncf (F := Ideal) (s := S8000x1024) .bf16 (m ((c : Thread nD τ).loc main_arg6) : FVec Ideal S8000x1024 .f32) bitsLt_bf16_f32 : FVec Ideal S8000x1024 .bf16) := by
  show StableHlo.after hostOps0 _ (Proc.devRef .tc main_v0) = _
  after_results
/-- The weights of the linear layer, transposed. -/
theorem V_main_v1 (c : Dev nD) : V m c main_v1 = transpose S1024x1024 [1, 0] (m ((c : Thread nD τ).loc main_arg2)) transposes_S1024x1024_S1024x1024_1_0 := by
  show StableHlo.after hostOps0 _ (Proc.devRef .tc main_v1) = _
  after_results
/-- The bias as a row. -/
theorem V_main_v2 (c : Dev nD) : V m c main_v2 = shapeCast S1x1024 (m ((c : Thread nD τ).loc main_arg3)) shapeCasts_S1024_S1x1024 := by
  show StableHlo.after hostOps0 _ (Proc.devRef .tc main_v2) = _
  after_results
  rfl
/-- The scale as a row. -/
theorem V_main_v3 (c : Dev nD) : V m c main_v3 = shapeCast S1x1024 (m ((c : Thread nD τ).loc main_arg4)) shapeCasts_S1024_S1x1024 := by
  show StableHlo.after hostOps0 _ (Proc.devRef .tc main_v3) = _
  after_results
  rfl
/-- The shift as a row. -/
theorem V_main_v4 (c : Dev nD) : V m c main_v4 = shapeCast S1x1024 (m ((c : Thread nD τ).loc main_arg5)) shapeCasts_S1024_S1x1024 := by
  show StableHlo.after hostOps0 _ (Proc.devRef .tc main_v4) = _
  after_results
  rfl

/-! ## The blocks at coordinates -/

/-- The distribution advances by one block of 32 rows a grid step. -/
theorem index0 : ∀ t : Fin cfg0.N, win0_0.index t = ![t.val, 0, 0] := (by decide +kernel : ∀ t : Fin grid0.N, _)
/-- So does the representation. -/
theorem index1 : ∀ t : Fin cfg0.N, win0_1.index t = ![t.val, 0, 0] := (by decide +kernel : ∀ t : Fin grid0.N, _)
/-- The weights are one block. -/
theorem index2 : ∀ t : Fin cfg0.N, win0_2.index t = ![0, 0] := (by decide +kernel : ∀ t : Fin grid0.N, _)
/-- The bias is one block. -/
theorem index3 : ∀ t : Fin cfg0.N, win0_3.index t = ![0, 0] := (by decide +kernel : ∀ t : Fin grid0.N, _)
/-- The scale is one block. -/
theorem index4 : ∀ t : Fin cfg0.N, win0_4.index t = ![0, 0] := (by decide +kernel : ∀ t : Fin grid0.N, _)
/-- The shift is one block. -/
theorem index5 : ∀ t : Fin cfg0.N, win0_5.index t = ![0, 0] := (by decide +kernel : ∀ t : Fin grid0.N, _)
/-- The table is one block. -/
theorem index6 : ∀ t : Fin cfg0.N, win0_6.index t = ![0, 0] := (by decide +kernel : ∀ t : Fin grid0.N, _)
/-- So does the result. -/
theorem index7 : ∀ t : Fin cfg0.N, win0_7.index t = ![t.val, 0, 0] := (by decide +kernel : ∀ t : Fin grid0.N, _)

/-- Row `p` of step `t`'s block of the distribution is row `32 t + p`. -/
theorem iblk0 (c : Dev nD) (t : Fin cfg0.N) (a : Fin 2048) (p : Fin 32) (ha : a.val = t.val * 32 + p.val) (q : Fin 4) (k : Fin 8000) :
    (iblk m c 0 t (ix3 p q k) : EReal) = (m ((c : Thread nD τ).loc main_arg1) : FVec Ideal S2048x4x8000 .f32) (ix3 a q k) := by
  show V m c main_arg1 ((win0_0.blk t).view.emb (ix3 p q k)) = _
  rw [V_main_arg1]
  refine congrArg _ ?_
  blk_ext [index0]
  exact ha.symm
/-- Row `p` of step `t`'s block of the representation is row `32 t + p`. -/
theorem iblk1 (c : Dev nD) (t : Fin cfg0.N) (a : Fin 2048) (p : Fin 32) (ha : a.val = t.val * 32 + p.val) (q : Fin 4) (k : Fin 1024) :
    (iblk m c 1 t (ix3 p q k) : EReal) = (m ((c : Thread nD τ).loc main_arg0) : FVec Ideal S2048x4x1024 .f32) (ix3 a q k) := by
  show V m c main_arg0 ((win0_1.blk t).view.emb (ix3 p q k)) = _
  rw [V_main_arg0]
  refine congrArg _ ?_
  blk_ext [index1]
  exact ha.symm
/-- The block of weights is the argument transposed. -/
theorem iblk2 (c : Dev nD) (t : Fin cfg0.N) (k j : Fin 1024) :
    (iblk m c 2 t (ix2 k j) : EReal) = (m ((c : Thread nD τ).loc main_arg2) : FVec Ideal S1024x1024 .f32) (ix2 j k) := by
  show V m c main_v1 ((win0_2.blk t).view.emb (ix2 k j)) = _
  rw [V_main_v1]
  refine (congrArg _ (by blk_ext [index2])).trans (b := transpose S1024x1024 [1, 0] (m ((c : Thread nD τ).loc main_arg2)) transposes_S1024x1024_S1024x1024_1_0 (ix2 k j)) ?_
  exact transpose_apply _ _ _ _ (ix2 j k) fun b => by fin_cases b <;> rfl
/-- The block of the bias is the argument. -/
theorem iblk3 (c : Dev nD) (t : Fin cfg0.N) (j : Fin 1024) :
    (iblk m c 3 t (ix2 0 j) : EReal) = (m ((c : Thread nD τ).loc main_arg3) : FVec Ideal S1024 .f32) (ix1 j) := by
  show V m c main_v2 ((win0_3.blk t).view.emb (ix2 0 j)) = _
  rw [V_main_v2]
  exact (congrArg _ (by blk_ext [index3])).trans (shapeCast_a_1a_apply (a := 1024) _ _ 0 j)
/-- The block of the scale is the argument. -/
theorem iblk4 (c : Dev nD) (t : Fin cfg0.N) (j : Fin 1024) :
    (iblk m c 4 t (ix2 0 j) : EReal) = (m ((c : Thread nD τ).loc main_arg4) : FVec Ideal S1024 .f32) (ix1 j) := by
  show V m c main_v3 ((win0_4.blk t).view.emb (ix2 0 j)) = _
  rw [V_main_v3]
  exact (congrArg _ (by blk_ext [index4])).trans (shapeCast_a_1a_apply (a := 1024) _ _ 0 j)
/-- The block of the shift is the argument. -/
theorem iblk5 (c : Dev nD) (t : Fin cfg0.N) (j : Fin 1024) :
    (iblk m c 5 t (ix2 0 j) : EReal) = (m ((c : Thread nD τ).loc main_arg5) : FVec Ideal S1024 .f32) (ix1 j) := by
  show V m c main_v4 ((win0_5.blk t).view.emb (ix2 0 j)) = _
  rw [V_main_v4]
  exact (congrArg _ (by blk_ext [index5])).trans (shapeCast_a_1a_apply (a := 1024) _ _ 0 j)
/-- The block of the table is the argument: the change of format rounds nothing on extended reals. -/
theorem iblk6 (c : Dev nD) (t : Fin cfg0.N) (k : Fin 8000) (j : Fin 1024) :
    (iblk m c 6 t (ix2 k j) : EReal) = (m ((c : Thread nD τ).loc main_arg6) : FVec Ideal S8000x1024 .f32) (ix2 k j) := by
  show V m c main_v0 ((win0_6.blk t).view.emb (ix2 k j)) = _
  rw [V_main_v0]
  refine congrArg (m ((c : Thread nD τ).loc main_arg6) : FVec Ideal S8000x1024 .f32) ?_
  blk_ext [index6]

/-! ## The result array -/

/-- The reference's result, of the arguments of device `c`. -/
abbrev G (c : Dev nD) : FVec Ideal S2048x4x1024 .f32 :=
  Cert.ReferenceIdeal.Read.val_main_v35 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- The result array ends holding the reference's result, where every entry of the distribution is at least -1. -/
theorem final (c : Dev nD) (hpre : ∀ i, ((-1 : ℝ) : EReal) ≤ (m ((c : Thread nD τ).loc main_arg1) : FVec Ideal S2048x4x8000 .f32) i) :
    (dats m 0 c).arrAt 7 cfg0.N = G m c := by
  refine (dats m 0 c).arrAt_eq_of_covers 7 _ (by decide +kernel) fun t hf y => ?_
  blk_simp
  rw [after0_7]
  have ht : t.val < 64 := t.isLt
  obtain ⟨p, q, j, rfl⟩ : ∃ (p : Fin 32) (q : Fin 4) (j : Fin 1024), y = ix3 p q j := ⟨y 0, y 1, y 2, ValueIdx.eq_ix3 y⟩
  obtain ⟨a, ha⟩ : ∃ a : Fin 2048, a.val = t.val * 32 + p.val := ⟨⟨t.val * 32 + p.val, by have := p.isLt; omega⟩, rfl⟩
  have e : (win0_7.blk t).view.emb (ix3 p q j) = ix3 a q j := by
    blk_ext [index7]
    exact ha.symm
  refine Eq.trans ?_ (congrArg (G m c) e.symm)
  exact block_eq _ _ _ _ _ _ _ _ _ _ _ _ _ _ a p q (iblk0 m c t a p ha q) (iblk1 m c t a p ha q) (iblk2 m c t) (iblk3 m c t)
    (iblk4 m c t) (iblk5 m c t) (iblk6 m c t) hpre j

/-- The kernel's run: the result is the reference's, the arguments unchanged. -/
theorem run (hpre : ∀ (c : Dev nD) i, ((-1 : ℝ) : EReal) ≤ (m ((c : Thread nD τ).loc main_arg1) : FVec Ideal S2048x4x8000 .f32) i) :
    θ_run (defs (F := Ideal)) (onTc (τ := τ) (main (F := Ideal))) ⟨m, fun _ => 0, ρ⟩ (fun r => ∀ c : Dev nD,
      r.2.mem ((c.tc : Thread nD τ).loc main_v5) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1 c).1 7).trans (final m c (hpre c)), h.2 c⟩)
    (θ_run_and (run_main m ρ) (unchanged m ρ))

end Cert.Proof.KernelValue

end
-- ==== Proof.lean ====
/-
  The proof of `Cert.Claim`. The frames of the kernel and of its idealization are the runs of `Proof/KernelBody.lean` and
  `Proof/KernelIdealBody.lean`; the reference's is its generated run. The equality of the results is the run of
  `Proof/KernelValue.lean` next to the reference's.
-/
module

public import proofs.«01_k».proof.Defs
public import proofs.«01_k».proof.Proof.KernelBody
public import proofs.«01_k».proof.Proof.KernelIdealBody
public import proofs.«01_k».proof.Proof.KernelValue
public import proofs.«01_k».proof.Proof.Gen.ReferenceIdeal.Run
public import proofs.«01_k».proof.Proof.Gen.ReferenceIdeal.Read
public import proofs.«01_k».proof.Proof.Gen.Pre_entries_at_least_minus_one

@[expose] public section

noncomputable section

namespace Cert.Proof

open Idealize.ShloMosaic Idealize.SL.Sem

/-- The reference's frame. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The precondition, entry by entry: every entry of the distribution is at least -1. -/
theorem entries_at_least (m : (ℓ : Loc Cert.KernelIdeal.nD Cert.KernelIdeal.τ Cert.KernelIdeal.sig) → Buf (Elt Ideal) ℓ)
    (h : Cert.Pre_KernelIdeal_entries_at_least_minus_one m) (c : Dev Cert.KernelIdeal.nD) (i : Cert.KernelIdeal.S2048x4x8000.Idx) :
    ((-1 : ℝ) : EReal) ≤ (m ((c.tc : Thread Cert.KernelIdeal.nD Cert.KernelIdeal.τ).loc Cert.KernelIdeal.main_arg1) :
      FVec Ideal Cert.KernelIdeal.S2048x4x8000 .f32) i := by
  have k := (Readings.cmpf_one .oge _ _).1 (congrFun (h c) i)
  rw [← Readings.ofBits_neg_one]
  exact k

/-- From equal arguments, the entries of the distribution at least -1, the kernel and the reference end with equal results. -/
theorem algebraic : Cert.algebraic_KernelIdeal_ReferenceIdeal_pre_entries_at_least_minus_one := fun m g m' g' hpre hargs =>
  ⟨KernelValue.G m, KernelValue.run m g (entries_at_least m hpre),
    (θ_run Cert.ReferenceIdeal.defs _ _).mono (fun r h c => ⟨(h c).1.trans (by
        obtain ⟨e0, e1, e2, e3, e4, e5, e6⟩ := hargs c
        rw [Cert.ReferenceIdeal.Read.val_main_v35_eq, e0, e1, e2, e3, e4, e5, e6]), (h c).2⟩)
      (Cert.ReferenceIdeal.Value.run (F := Ideal) m' g')⟩

/-- Everything the certificate claims. -/
theorem claim : Cert.Claim :=
  ⟨Cert.Kernel.Gen.facts, Cert.KernelIdeal.Gen.facts, Cert.ReferenceIdeal.Gen.facts, Cert.Pre_entries_at_least_minus_one.Gen.facts,
    fun m ρ _ => KernelBody.frame m ρ, fun m ρ _ => KernelIdealBody.frame m ρ, fun m ρ _ => KernelIdealBody.frame m ρ,
    frame_reference, fun m ρ _ => frame_reference m ρ trivial, trivial, algebraic⟩

end Cert.Proof

end
